-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_and_labels [hPre_boxes_and_labels : Cert.Pre_boxes_and_labels.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_boxes_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_boxes_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_boxes_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_boxes_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 = (fun _ => 1#1)
    ∧ (Cert.Pre_boxes_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_and_labels [hPre_boxes_and_labels : Cert.Pre_boxes_and_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_boxes_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_boxes_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_boxes_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_boxes_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.1 = (fun _ => 1#1)
    ∧ (Cert.Pre_boxes_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_boxes_and_labels [hKernelIdeal : Cert.KernelIdeal.Facts] [hPre_boxes_and_labels : Cert.Pre_boxes_and_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_and_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_boxes_and_labels [hReferenceIdeal : Cert.ReferenceIdeal.Facts] [hPre_boxes_and_labels : Cert.Pre_boxes_and_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_and_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_boxes_and_labels [hKernelIdeal : Cert.KernelIdeal.Facts] [hReferenceIdeal : Cert.ReferenceIdeal.Facts] [hPre_boxes_and_labels : Cert.Pre_boxes_and_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_and_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_v225) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_boxes_and_labels : Cert.Pre_boxes_and_labels.Facts),
    quiescent_Kernel (hKernel := hKernel)
    ∧ quiescent_KernelIdeal (hKernelIdeal := hKernelIdeal)
    ∧ quiescent_KernelIdeal_pre_boxes_and_labels (hKernelIdeal := hKernelIdeal) (hPre_boxes_and_labels := hPre_boxes_and_labels)
    ∧ quiescent_ReferenceIdeal (hReferenceIdeal := hReferenceIdeal)
    ∧ quiescent_ReferenceIdeal_pre_boxes_and_labels (hReferenceIdeal := hReferenceIdeal) (hPre_boxes_and_labels := hPre_boxes_and_labels)
    ∧ preserves_Kernel_KernelIdeal
    ∧ algebraic_KernelIdeal_ReferenceIdeal_pre_boxes_and_labels (hKernelIdeal := hKernelIdeal) (hReferenceIdeal := hReferenceIdeal) (hPre_boxes_and_labels := hPre_boxes_and_labels)
-- ==== Pre_boxes_and_labels.lean ====
abbrev S1x20000x4 : Shape := ⟨3, ![1, 20000, 4]⟩
abbrev S1x100x4 : Shape := ⟨3, ![1, 100, 4]⟩
abbrev S1x100x21 : Shape := ⟨3, ![1, 100, 21]⟩
abbrev S_ : Shape := ⟨0, ![]⟩
abbrev S1x20000x2 : Shape := ⟨3, ![1, 20000, 2]⟩
abbrev S1x100x2 : Shape := ⟨3, ![1, 100, 2]⟩
abbrev S1x100 : Shape := ⟨2, ![1, 100]⟩

class Facts : Prop where
  bcast_S_S1x20000x4 : S_.BroadcastsInDim S1x20000x4 (![] : Fin 0 → Fin S1x20000x4.rank)
  slices_S1x20000x4_S1x20000x2_0_0_0 : S1x20000x4.Slices ![0, 0, 0] S1x20000x2
  slices_S1x20000x4_S1x20000x2_0_0_2 : S1x20000x4.Slices ![0, 0, 2] S1x20000x2
  bcast_S_S1x100x4 : S_.BroadcastsInDim S1x100x4 (![] : Fin 0 → Fin S1x100x4.rank)
  slices_S1x100x4_S1x100x2_0_0_0 : S1x100x4.Slices ![0, 0, 0] S1x100x2
  slices_S1x100x4_S1x100x2_0_0_2 : S1x100x4.Slices ![0, 0, 2] S1x100x2
  bcast_S_S1x100x21 : S_.BroadcastsInDim S1x100x21 (![] : Fin 0 → Fin S1x100x21.rank)
  reducesTo_S1x100x21_S1x100_d2 : S1x100x21.ReducesTo [2] S1x100
  h_S_ : 0 < S_.numel
  bcast_S_S1x100 : S_.BroadcastsInDim S1x100 (![] : Fin 0 → Fin S1x100.rank)

variable [Facts]

def fn_part1 {F : FTy → Type} [FloatOps F] (main_v2 : IVec S1x20000x4 1) (main_v5 : IVec S1x20000x2 1) (main_v8 : IVec S1x100x4 1) (main_v11 : IVec S1x100x2 1) (main_v16 : IVec S1x100x21 1) (main_v17 : FVec F S1x100 .f32) (main_cst_4 : FVec F S_ .f32) : IVec S1x20000x4 1 × IVec S1x20000x2 1 × IVec S1x100x4 1 × IVec S1x100x2 1 × IVec S1x100x21 1 × IVec S1x100 1 :=
  let main_v18 : FVec F S1x100 .f32 := broadcastInDim S1x100 ![] bcast_S_S1x100 main_cst_4
  let main_v19 : IVec S1x100 1 := cmpf .oeq main_v17 main_v18
  (main_v2, main_v5, main_v8, main_v11, main_v16, main_v19)

def fn {F : FTy → Type} [FloatOps F] (main_arg0 : FVec F S1x20000x4 .f32) (main_arg1 : FVec F S1x100x4 .f32) (main_arg2 : FVec F S1x100x21 .f32) : IVec S1x20000x4 1 × IVec S1x20000x2 1 × IVec S1x100x4 1 × IVec S1x100x2 1 × IVec S1x100x21 1 × IVec S1x100 1 :=
  let main_v0 : FVec F S1x20000x4 .f32 := Host.absf main_arg0
  let main_cst : FVec F S_ .f32 := constant S_ .f32 0x7F800000#32
  let main_v1 : FVec F S1x20000x4 .f32 := broadcastInDim S1x20000x4 ![] bcast_S_S1x20000x4 main_cst
  let main_v2 : IVec S1x20000x4 1 := cmpf .olt main_v0 main_v1
  let main_v3 : FVec F S1x20000x2 .f32 := (extractStridedSlice S1x20000x2 ![0, 0, 0] · slices_S1x20000x4_S1x20000x2_0_0_0) main_arg0
  let main_v4 : FVec F S1x20000x2 .f32 := (extractStridedSlice S1x20000x2 ![0, 0, 2] · slices_S1x20000x4_S1x20000x2_0_0_2) main_arg0
  let main_v5 : IVec S1x20000x2 1 := cmpf .ole main_v3 main_v4
  let main_v6 : FVec F S1x100x4 .f32 := Host.absf main_arg1
  let main_cst_0 : FVec F S_ .f32 := constant S_ .f32 0x7F800000#32
  let main_v7 : FVec F S1x100x4 .f32 := broadcastInDim S1x100x4 ![] bcast_S_S1x100x4 main_cst_0
  let main_v8 : IVec S1x100x4 1 := cmpf .olt main_v6 main_v7
  let main_v9 : FVec F S1x100x2 .f32 := (extractStridedSlice S1x100x2 ![0, 0, 0] · slices_S1x100x4_S1x100x2_0_0_0) main_arg1
  let main_v10 : FVec F S1x100x2 .f32 := (extractStridedSlice S1x100x2 ![0, 0, 2] · slices_S1x100x4_S1x100x2_0_0_2) main_arg1
  let main_v11 : IVec S1x100x2 1 := cmpf .ole main_v9 main_v10
  let main_cst_1 : FVec F S_ .f32 := constant S_ .f32 0x00000000#32
  let main_v12 : FVec F S1x100x21 .f32 := broadcastInDim S1x100x21 ![] bcast_S_S1x100x21 main_cst_1
  let main_v13 : IVec S1x100x21 1 := cmpf .oeq main_arg2 main_v12
  let main_cst_2 : FVec F S_ .f32 := constant S_ .f32 0x3F800000#32
  let main_v14 : FVec F S1x100x21 .f32 := broadcastInDim S1x100x21 ![] bcast_S_S1x100x21 main_cst_2
  let main_v15 : IVec S1x100x21 1 := cmpf .oeq main_arg2 main_v14
  let main_v16 : IVec S1x100x21 1 := ori main_v13 main_v15
  let main_cst_3 : FVec F S_ .f32 := constant S_ .f32 0x00000000#32
  let main_v17 : FVec F S1x100 .f32 := (fun x v => Host.reduceAdd x v reducesTo_S1x100x21_S1x100_d2 h_S_) main_arg2 main_cst_3
  let main_cst_4 : FVec F S_ .f32 := constant S_ .f32 0x3F800000#32
  fn_part1 (F := F) main_v2 main_v5 main_v8 main_v11 main_v16 main_v17 main_cst_4
-- ==== Kernel.lean ====
abbrev S1x20000x4 : Shape := ⟨3, ![1, 20000, 4]⟩
abbrev S1x100x4 : Shape := ⟨3, ![1, 100, 4]⟩
abbrev S1x100x21 : Shape := ⟨3, ![1, 100, 21]⟩
abbrev S20000x4 : Shape := ⟨2, ![20000, 4]⟩
abbrev S100x4 : Shape := ⟨2, ![100, 4]⟩
abbrev S20100x4 : Shape := ⟨2, ![20100, 4]⟩
abbrev S_ : Shape := ⟨0, ![]⟩
abbrev S12668x4 : Shape := ⟨2, ![12668, 4]⟩
abbrev S32768x4 : Shape := ⟨2, ![32768, 4]⟩
abbrev S4x32768 : Shape := ⟨2, ![4, 32768]⟩
abbrev S4x256x128 : Shape := ⟨3, ![4, 256, 128]⟩
abbrev S4x100 : Shape := ⟨2, ![4, 100]⟩
abbrev S100x21 : Shape := ⟨2, ![100, 21]⟩
abbrev S21x100 : Shape := ⟨2, ![21, 100]⟩
abbrev S256x4 : Shape := ⟨2, ![256, 4]⟩
abbrev S256x21 : Shape := ⟨2, ![256, 21]⟩
abbrev S256x84 : Shape := ⟨2, ![256, 84]⟩
abbrev S1x256x128 : Shape := ⟨3, ![1, 256, 128]⟩
abbrev S256x128 : Shape := ⟨2, ![256, 128]⟩
abbrev S32x128 : Shape := ⟨2, ![32, 128]⟩
abbrev S1x1 : Shape := ⟨2, ![1, 1]⟩
abbrev S256x1 : Shape := ⟨2, ![256, 1]⟩
abbrev S1x128 : Shape := ⟨2, ![1, 128]⟩
abbrev S256x64 : Shape := ⟨2, ![256, 64]⟩
abbrev S1x64 : Shape := ⟨2, ![1, 64]⟩
abbrev S256x32 : Shape := ⟨2, ![256, 32]⟩
abbrev S1x32 : Shape := ⟨2, ![1, 32]⟩
abbrev S256x16 : Shape := ⟨2, ![256, 16]⟩
abbrev S1x16 : Shape := ⟨2, ![1, 16]⟩
abbrev S256x8 : Shape := ⟨2, ![256, 8]⟩
abbrev S1x8 : Shape := ⟨2, ![1, 8]⟩
abbrev S1x4 : Shape := ⟨2, ![1, 4]⟩
abbrev S256x2 : Shape := ⟨2, ![256, 2]⟩
abbrev S1x2 : Shape := ⟨2, ![1, 2]⟩
abbrev S1x256 : Shape := ⟨2, ![1, 256]⟩
abbrev S256x256 : Shape := ⟨2, ![256, 256]⟩
abbrev S256 : Shape := ⟨1, ![256]⟩
abbrev S1x100 : Shape := ⟨2, ![1, 100]⟩
abbrev S256x100 : Shape := ⟨2, ![256, 100]⟩
abbrev S21x1 : Shape := ⟨2, ![21, 1]⟩
abbrev S100 : Shape := ⟨1, ![100]⟩
abbrev S1x21 : Shape := ⟨2, ![1, 21]⟩
abbrev S1x84 : Shape := ⟨2, ![1, 84]⟩

abbrev nBuf : Space → Nat
  | .hbm => 18
  | .vmem => 6
  | .smem => 1
  | _ => 0

abbrev bufTy : (tb : Table) → Fin (tcTables nBuf tb) → BufTy
  | .hbm, ⟨0, _⟩ => ⟨S1x20000x4, .f32⟩
  | .hbm, ⟨1, _⟩ => ⟨S1x100x4, .f32⟩
  | .hbm, ⟨2, _⟩ => ⟨S1x100x21, .f32⟩
  | .hbm, ⟨3, _⟩ => ⟨S20000x4, .f32⟩
  | .hbm, ⟨4, _⟩ => ⟨S100x4, .f32⟩
  | .hbm, ⟨5, _⟩ => ⟨S20100x4, .f32⟩
  | .hbm, ⟨6, _⟩ => ⟨S_, .f32⟩
  | .hbm, ⟨7, _⟩ => ⟨S12668x4, .f32⟩
  | .hbm, ⟨8, _⟩ => ⟨S32768x4, .f32⟩
  | .hbm, ⟨9, _⟩ => ⟨S4x32768, .f32⟩
  | .hbm, ⟨10, _⟩ => ⟨S4x256x128, .f32⟩
  | .hbm, ⟨11, _⟩ => ⟨S100x4, .f32⟩
  | .hbm, ⟨12, _⟩ => ⟨S4x100, .f32⟩
  | .hbm, ⟨13, _⟩ => ⟨S100x21, .f32⟩
  | .hbm, ⟨14, _⟩ => ⟨S21x100, .f32⟩
  | .hbm, ⟨15, _⟩ => ⟨S256x4, .f32⟩
  | .hbm, ⟨16, _⟩ => ⟨S256x21, .f32⟩
  | .hbm, ⟨17, _⟩ => ⟨S256x84, .f32⟩
  | .local _ .vmem, ⟨0, _⟩ => ⟨S4x256x128, .f32⟩
  | .local _ .vmem, ⟨1, _⟩ => ⟨S4x100, .f32⟩
  | .local _ .vmem, ⟨2, _⟩ => ⟨S21x100, .f32⟩
  | .local _ .vmem, ⟨3, _⟩ => ⟨S256x4, .f32⟩
  | .local _ .vmem, ⟨4, _⟩ => ⟨S256x21, .f32⟩
  | .local _ .vmem, ⟨5, _⟩ => ⟨S256x84, .f32⟩
  | .local _ .smem, ⟨0, _⟩ => ⟨S100x4, .f32⟩
  | _, _ => ⟨S1x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_10 : BitVec 32 := 0#32
  let c100_i32 : BitVec 32 := 100#32
  let v27 : BitVec 32 := Scalar.addi c0_i32_10 c100_i32
  let c1_i32 : BitVec 32 := 1#32
  ⟨c0_i32_10, v27, c1_i32⟩
def k0_off1 (k0_t1 : Fin k0_t1_loop.trips) : Fin 2 → Nat :=
  let c0_i32_10 : BitVec 32 := 0#32
  let c1_i32 : BitVec 32 := 1#32
  let arg7 : BitVec 32 := Scf.iv c0_i32_10 c1_i32 k0_t1
  let v3134 : Index := Scalar.indexCast arg7
  let c0_903 : Index := 0#32
  ![v3134.toNat, 0]
def k0_off2 (k0_t1 : Fin k0_t1_loop.trips) : Fin 2 → Nat :=
  let c0_i32_10 : BitVec 32 := 0#32
  let c1_i32 : BitVec 32 := 1#32
  let arg7 : BitVec 32 := Scf.iv c0_i32_10 c1_i32 k0_t1
  let v3136 : Index := Scalar.indexCast arg7
  let c1_904 : Index := 1#32
  ![v3136.toNat, 1]
def k0_off3 (k0_t1 : Fin k0_t1_loop.trips) : Fin 2 → Nat :=
  let c0_i32_10 : BitVec 32 := 0#32
  let c1_i32 : BitVec 32 := 1#32
  let arg7 : BitVec 32 := Scf.iv c0_i32_10 c1_i32 k0_t1
  let v3138 : Index := Scalar.indexCast arg7
  let c2_905 : Index := 2#32
  ![v3138.toNat, 2]
def k0_off4 (k0_t1 : Fin k0_t1_loop.trips) : Fin 2 → Nat :=
  let c0_i32_10 : BitVec 32 := 0#32
  let c1_i32 : BitVec 32 := 1#32
  let arg7 : BitVec 32 := Scf.iv c0_i32_10 c1_i32 k0_t1
  let v3140 : Index := Scalar.indexCast arg7
  let c3_906 : Index := 3#32
  ![v3140.toNat, 3]
@[reducible] def k0_t2_loop : Scf.Loop 32 :=
  let c0_i32_14 : BitVec 32 := 0#32
  let c100_i32_15 : BitVec 32 := 100#32
  let v36 : BitVec 32 := Scalar.addi c0_i32_14 c100_i32_15
  let c1_i32_16 : BitVec 32 := 1#32
  ⟨c0_i32_14, v36, c1_i32_16⟩
def k0_off5 (k0_t2 : Fin k0_t2_loop.trips) : Fin 2 → Nat :=
  let c0_i32_14 : BitVec 32 := 0#32
  let c1_i32_16 : BitVec 32 := 1#32
  let arg7 : BitVec 32 := Scf.iv c0_i32_14 c1_i32_16 k0_t2
  let v3134 : Index := Scalar.indexCast arg7
  let c0_903 : Index := 0#32
  ![v3134.toNat, 0]
def k0_off6 (k0_t2 : Fin k0_t2_loop.trips) : Fin 2 → Nat :=
  let c0_i32_14 : BitVec 32 := 0#32
  let c1_i32_16 : BitVec 32 := 1#32
  let arg7 : BitVec 32 := Scf.iv c0_i32_14 c1_i32_16 k0_t2
  let v3136 : Index := Scalar.indexCast arg7
  let c1_904 : Index := 1#32
  ![v3136.toNat, 1]
def k0_off7 (k0_t2 : Fin k0_t2_loop.trips) : Fin 2 → Nat :=
  let c0_i32_14 : BitVec 32 := 0#32
  let c1_i32_16 : BitVec 32 := 1#32
  let arg7 : BitVec 32 := Scf.iv c0_i32_14 c1_i32_16 k0_t2
  let v3138 : Index := Scalar.indexCast arg7
  let c2_905 : Index := 2#32
  ![v3138.toNat, 2]
def k0_off8 (k0_t2 : Fin k0_t2_loop.trips) : Fin 2 → Nat :=
  let c0_i32_14 : BitVec 32 := 0#32
  let c1_i32_16 : BitVec 32 := 1#32
  let arg7 : BitVec 32 := Scf.iv c0_i32_14 c1_i32_16 k0_t2
  let v3140 : Index := Scalar.indexCast arg7
  let c3_906 : Index := 3#32
  ![v3140.toNat, 3]
@[reducible] def k0_t3_loop : Scf.Loop 32 :=
  let c0_i32_20 : BitVec 32 := 0#32
  let c100_i32_21 : BitVec 32 := 100#32
  let v45 : BitVec 32 := Scalar.addi c0_i32_20 c100_i32_21
  let c1_i32_22 : BitVec 32 := 1#32
  ⟨c0_i32_20, v45, c1_i32_22⟩
def k0_off9 (k0_t3 : Fin k0_t3_loop.trips) : Fin 2 → Nat :=
  let c0_i32_20 : BitVec 32 := 0#32
  let c1_i32_22 : BitVec 32 := 1#32
  let arg7 : BitVec 32 := Scf.iv c0_i32_20 c1_i32_22 k0_t3
  let v3134 : Index := Scalar.indexCast arg7
  let c0_903 : Index := 0#32
  ![v3134.toNat, 0]
def k0_off10 (k0_t3 : Fin k0_t3_loop.trips) : Fin 2 → Nat :=
  let c0_i32_20 : BitVec 32 := 0#32
  let c1_i32_22 : BitVec 32 := 1#32
  let arg7 : BitVec 32 := Scf.iv c0_i32_20 c1_i32_22 k0_t3
  let v3136 : Index := Scalar.indexCast arg7
  let c1_904 : Index := 1#32
  ![v3136.toNat, 1]
def k0_off11 (k0_t3 : Fin k0_t3_loop.trips) : Fin 2 → Nat :=
  let c0_i32_20 : BitVec 32 := 0#32
  let c1_i32_22 : BitVec 32 := 1#32
  let arg7 : BitVec 32 := Scf.iv c0_i32_20 c1_i32_22 k0_t3
  let v3138 : Index := Scalar.indexCast arg7
  let c2_905 : Index := 2#32
  ![v3138.toNat, 2]
def k0_off12 (k0_t3 : Fin k0_t3_loop.trips) : Fin 2 → Nat :=
  let c0_i32_20 : BitVec 32 := 0#32
  let c1_i32_22 : BitVec 32 := 1#32
  let arg7 : BitVec 32 := Scf.iv c0_i32_20 c1_i32_22 k0_t3
  let v3140 : Index := Scalar.indexCast arg7
  let c3_906 : Index := 3#32
  ![v3140.toNat, 3]
@[reducible] def k0_t4_loop : Scf.Loop 32 :=
  let c0_i32_26 : BitVec 32 := 0#32
  let c100_i32_27 : BitVec 32 := 100#32
  let v54 : BitVec 32 := Scalar.addi c0_i32_26 c100_i32_27
  let c1_i32_28 : BitVec 32 := 1#32
  ⟨c0_i32_26, v54, c1_i32_28⟩
def k0_off13 (k0_t4 : Fin k0_t4_loop.trips) : Fin 2 → Nat :=
  let c0_i32_26 : BitVec 32 := 0#32
  let c1_i32_28 : BitVec 32 := 1#32
  let arg7 : BitVec 32 := Scf.iv c0_i32_26 c1_i32_28 k0_t4
  let v3134 : Index := Scalar.indexCast arg7
  let c0_903 : Index := 0#32
  ![v3134.toNat, 0]
def k0_off14 (k0_t4 : Fin k0_t4_loop.trips) : Fin 2 → Nat :=
  let c0_i32_26 : BitVec 32 := 0#32
  let c1_i32_28 : BitVec 32 := 1#32
  let arg7 : BitVec 32 := Scf.iv c0_i32_26 c1_i32_28 k0_t4
  let v3136 : Index := Scalar.indexCast arg7
  let c1_904 : Index := 1#32
  ![v3136.toNat, 1]
def k0_off15 (k0_t4 : Fin k0_t4_loop.trips) : Fin 2 → Nat :=
  let c0_i32_26 : BitVec 32 := 0#32
  let c1_i32_28 : BitVec 32 := 1#32
  let arg7 : BitVec 32 := Scf.iv c0_i32_26 c1_i32_28 k0_t4
  let v3138 : Index := Scalar.indexCast arg7
  let c2_905 : Index := 2#32
  ![v3138.toNat, 2]
def k0_off16 (k0_t4 : Fin k0_t4_loop.trips) : Fin 2 → Nat :=
  let c0_i32_26 : BitVec 32 := 0#32
  let c1_i32_28 : BitVec 32 := 1#32
  let arg7 : BitVec 32 := Scf.iv c0_i32_26 c1_i32_28 k0_t4
  let v3140 : Index := Scalar.indexCast arg7
  let c3_906 : Index := 3#32
  ![v3140.toNat, 3]
@[reducible] def k0_t5_loop : Scf.Loop 32 :=
  let c0_i32_32 : BitVec 32 := 0#32
  let c100_i32_33 : BitVec 32 := 100#32
  let v63 : BitVec 32 := Scalar.addi c0_i32_32 c100_i32_33
  let c1_i32_34 : BitVec 32 := 1#32
  ⟨c0_i32_32, v63, c1_i32_34⟩
def k0_off17 (k0_t5 : Fin k0_t5_loop.trips) : Fin 2 → Nat :=
  let c0_i32_32 : BitVec 32 := 0#32
  let c1_i32_34 : BitVec 32 := 1#32
  let arg7 : BitVec 32 := Scf.iv c0_i32_32 c1_i32_34 k0_t5
  let v3134 : Index := Scalar.indexCast arg7
  let c0_903 : Index := 0#32
  ![v3134.toNat, 0]
def k0_off18 (k0_t5 : Fin k0_t5_loop.trips) : Fin 2 → Nat :=
  let c0_i32_32 : BitVec 32 := 0#32
  let c1_i32_34 : BitVec 32 := 1#32
  let arg7 : BitVec 32 := Scf.iv c0_i32_32 c1_i32_34 k0_t5
  let v3136 : Index := Scalar.indexCast arg7
  let c1_904 : Index := 1#32
  ![v3136.toNat, 1]
def k0_off19 (k0_t5 : Fin k0_t5_loop.trips) : Fin 2 → Nat :=
  let c0_i32_32 : BitVec 32 := 0#32
  let c1_i32_34 : BitVec 32 := 1#32
  let arg7 : BitVec 32 := Scf.iv c0_i32_32 c1_i32_34 k0_t5
  let v3138 : Index := Scalar.indexCast arg7
  let c2_905 : Index := 2#32
  ![v3138.toNat, 2]
def k0_off20 (k0_t5 : Fin k0_t5_loop.trips) : Fin 2 → Nat :=
  let c0_i32_32 : BitVec 32 := 0#32
  let c1_i32_34 : BitVec 32 := 1#32
  let arg7 : BitVec 32 := Scf.iv c0_i32_32 c1_i32_34 k0_t5
  let v3140 : Index := Scalar.indexCast arg7
  let c3_906 : Index := 3#32
  ![v3140.toNat, 3]
@[reducible] def k0_t6_loop : Scf.Loop 32 :=
  let c0_i32_38 : BitVec 32 := 0#32
  let c100_i32_39 : BitVec 32 := 100#32
  let v72 : BitVec 32 := Scalar.addi c0_i32_38 c100_i32_39
  let c1_i32_40 : BitVec 32 := 1#32
  ⟨c0_i32_38, v72, c1_i32_40⟩
def k0_off21 (k0_t6 : Fin k0_t6_loop.trips) : Fin 2 → Nat :=
  let c0_i32_38 : BitVec 32 := 0#32
  let c1_i32_40 : BitVec 32 := 1#32
  let arg7 : BitVec 32 := Scf.iv c0_i32_38 c1_i32_40 k0_t6
  let v3134 : Index := Scalar.indexCast arg7
  let c0_903 : Index := 0#32
  ![v3134.toNat, 0]
def k0_off22 (k0_t6 : Fin k0_t6_loop.trips) : Fin 2 → Nat :=
  let c0_i32_38 : BitVec 32 := 0#32
  let c1_i32_40 : BitVec 32 := 1#32
  let arg7 : BitVec 32 := Scf.iv c0_i32_38 c1_i32_40 k0_t6
  let v3136 : Index := Scalar.indexCast arg7
  let c1_904 : Index := 1#32
  ![v3136.toNat, 1]
def k0_off23 (k0_t6 : Fin k0_t6_loop.trips) : Fin 2 → Nat :=
  let c0_i32_38 : BitVec 32 := 0#32
  let c1_i32_40 : BitVec 32 := 1#32
  let arg7 : BitVec 32 := Scf.iv c0_i32_38 c1_i32_40 k0_t6
  let v3138 : Index := Scalar.indexCast arg7
  let c2_905 : Index := 2#32
  ![v3138.toNat, 2]
def k0_off24 (k0_t6 : Fin k0_t6_loop.trips) : Fin 2 → Nat :=
  let c0_i32_38 : BitVec 32 := 0#32
  let c1_i32_40 : BitVec 32 := 1#32
  let arg7 : BitVec 32 := Scf.iv c0_i32_38 c1_i32_40 k0_t6
  let v3140 : Index := Scalar.indexCast arg7
  let c3_906 : Index := 3#32
  ![v3140.toNat, 3]
@[reducible] def k0_t7_loop : Scf.Loop 32 :=
  let c0_i32_44 : BitVec 32 := 0#32
  let c100_i32_45 : BitVec 32 := 100#32
  let v81 : BitVec 32 := Scalar.addi c0_i32_44 c100_i32_45
  let c1_i32_46 : BitVec 32 := 1#32
  ⟨c0_i32_44, v81, c1_i32_46⟩
def k0_off25 (k0_t7 : Fin k0_t7_loop.trips) : Fin 2 → Nat :=
  let c0_i32_44 : BitVec 32 := 0#32
  let c1_i32_46 : BitVec 32 := 1#32
  let arg7 : BitVec 32 := Scf.iv c0_i32_44 c1_i32_46 k0_t7
  let v3134 : Index := Scalar.indexCast arg7
  let c0_903 : Index := 0#32
  ![v3134.toNat, 0]
def k0_off26 (k0_t7 : Fin k0_t7_loop.trips) : Fin 2 → Nat :=
  let c0_i32_44 : BitVec 32 := 0#32
  let c1_i32_46 : BitVec 32 := 1#32
  let arg7 : BitVec 32 := Scf.iv c0_i32_44 c1_i32_46 k0_t7
  let v3136 : Index := Scalar.indexCast arg7
  let c1_904 : Index := 1#32
  ![v3136.toNat, 1]
def k0_off27 (k0_t7 : Fin k0_t7_loop.trips) : Fin 2 → Nat :=
  let c0_i32_44 : BitVec 32 := 0#32
  let c1_i32_46 : BitVec 32 := 1#32
  let arg7 : BitVec 32 := Scf.iv c0_i32_44 c1_i32_46 k0_t7
  let v3138 : Index := Scalar.indexCast arg7
  let c2_905 : Index := 2#32
  ![v3138.toNat, 2]
def k0_off28 (k0_t7 : Fin k0_t7_loop.trips) : Fin 2 → Nat :=
  let c0_i32_44 : BitVec 32 := 0#32
  let c1_i32_46 : BitVec 32 := 1#32
  let arg7 : BitVec 32 := Scf.iv c0_i32_44 c1_i32_46 k0_t7
  let v3140 : Index := Scalar.indexCast arg7
  let c3_906 : Index := 3#32
  ![v3140.toNat, 3]
@[reducible] def k0_t8_loop : Scf.Loop 32 :=
  let c0_i32_50 : BitVec 32 := 0#32
  let c100_i32_51 : BitVec 32 := 100#32
  let v90 : BitVec 32 := Scalar.addi c0_i32_50 c100_i32_51
  let c1_i32_52 : BitVec 32 := 1#32
  ⟨c0_i32_50, v90, c1_i32_52⟩
def k0_off29 (k0_t8 : Fin k0_t8_loop.trips) : Fin 2 → Nat :=
  let c0_i32_50 : BitVec 32 := 0#32
  let c1_i32_52 : BitVec 32 := 1#32
  let arg7 : BitVec 32 := Scf.iv c0_i32_50 c1_i32_52 k0_t8
  let v3134 : Index := Scalar.indexCast arg7
  let c0_903 : Index := 0#32
  ![v3134.toNat, 0]
def k0_off30 (k0_t8 : Fin k0_t8_loop.trips) : Fin 2 → Nat :=
  let c0_i32_50 : BitVec 32 := 0#32
  let c1_i32_52 : BitVec 32 := 1#32
  let arg7 : BitVec 32 := Scf.iv c0_i32_50 c1_i32_52 k0_t8
  let v3136 : Index := Scalar.indexCast arg7
  let c1_904 : Index := 1#32
  ![v3136.toNat, 1]
def k0_off31 (k0_t8 : Fin k0_t8_loop.trips) : Fin 2 → Nat :=
  let c0_i32_50 : BitVec 32 := 0#32
  let c1_i32_52 : BitVec 32 := 1#32
  let arg7 : BitVec 32 := Scf.iv c0_i32_50 c1_i32_52 k0_t8
  let v3138 : Index := Scalar.indexCast arg7
  let c2_905 : Index := 2#32
  ![v3138.toNat, 2]
def k0_off32 (k0_t8 : Fin k0_t8_loop.trips) : Fin 2 → Nat :=
  let c0_i32_50 : BitVec 32 := 0#32
  let c1_i32_52 : BitVec 32 := 1#32
  let arg7 : BitVec 32 := Scf.iv c0_i32_50 c1_i32_52 k0_t8
  let v3140 : Index := Scalar.indexCast arg7
  let c3_906 : Index := 3#32
  ![v3140.toNat, 3]
abbrev stage0_0 : Fin 1 → Memref sig .tc .vmem S4x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S100x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S21x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x21 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x84 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S1x20000x4 : Shape := ⟨3, ![1, 20000, 4]⟩
abbrev S1x100x4 : Shape := ⟨3, ![1, 100, 4]⟩
abbrev S1x100x21 : Shape := ⟨3, ![1, 100, 21]⟩
abbrev S20000x4 : Shape := ⟨2, ![20000, 4]⟩
abbrev S100x4 : Shape := ⟨2, ![100, 4]⟩
abbrev S20100x4 : Shape := ⟨2, ![20100, 4]⟩
abbrev S100x21 : Shape := ⟨2, ![100, 21]⟩
abbrev S20100x1 : Shape := ⟨2, ![20100, 1]⟩
abbrev S20100 : Shape := ⟨1, ![20100]⟩
abbrev S_ : Shape := ⟨0, ![]⟩
abbrev S100x1 : Shape := ⟨2, ![100, 1]⟩
abbrev S100 : Shape := ⟨1, ![100]⟩
abbrev S1x100 : Shape := ⟨2, ![1, 100]⟩
abbrev S20100x100 : Shape := ⟨2, ![20100, 100]⟩
abbrev S256 : Shape := ⟨1, ![256]⟩
abbrev S256x1 : Shape := ⟨2, ![256, 1]⟩
abbrev S256x4 : Shape := ⟨2, ![256, 4]⟩
abbrev S256x21 : Shape := ⟨2, ![256, 21]⟩
abbrev S1 : Shape := ⟨1, ![1]⟩
abbrev S1x21 : Shape := ⟨2, ![1, 21]⟩
abbrev S256x21x1 : Shape := ⟨3, ![256, 21, 1]⟩
abbrev S256x1x4 : Shape := ⟨3, ![256, 1, 4]⟩
abbrev S256x21x4 : Shape := ⟨3, ![256, 21, 4]⟩
abbrev S256x1x1 : Shape := ⟨3, ![256, 1, 1]⟩
abbrev S256x84 : Shape := ⟨2, ![256, 84]⟩

abbrev nBuf : Space → Nat
  | .hbm => 279
  | .vmem => 0
  | .smem => 0
  | _ => 0

abbrev hbmTy0_0 (i : Nat) : BufTy := match i % 128 with
  | 0 => ⟨S1x20000x4, .f32⟩
  | 1 => ⟨S1x100x4, .f32⟩
  | 2 => ⟨S1x100x21, .f32⟩
  | 3 => ⟨S20000x4, .f32⟩
  | 4 => ⟨S100x4, .f32⟩
  | 5 => ⟨S20100x4, .f32⟩
  | 6 => ⟨S100x4, .f32⟩
  | 7 => ⟨S100x21, .f32⟩
  | 8 => ⟨S20100x1, .f32⟩
  | 9 => ⟨S20100, .f32⟩
  | 10 => ⟨S20100x1, .f32⟩
  | 11 => ⟨S20100, .f32⟩
  | 12 => ⟨S20100, .f32⟩
  | 13 => ⟨S_, .f32⟩
  | 14 => ⟨S20100, .f32⟩
  | 15 => ⟨S20100, .f32⟩
  | 16 => ⟨S20100x1, .f32⟩
  | 17 => ⟨S20100, .f32⟩
  | 18 => ⟨S20100x1, .f32⟩
  | 19 => ⟨S20100, .f32⟩
  | 20 => ⟨S20100, .f32⟩
  | 21 => ⟨S_, .f32⟩
  | 22 => ⟨S20100, .f32⟩
  | 23 => ⟨S20100, .f32⟩
  | 24 => ⟨S20100, .f32⟩
  | 25 => ⟨S100x1, .f32⟩
  | 26 => ⟨S100, .f32⟩
  | 27 => ⟨S100x1, .f32⟩
  | 28 => ⟨S100, .f32⟩
  | 29 => ⟨S100, .f32⟩
  | 30 => ⟨S_, .f32⟩
  | 31 => ⟨S100, .f32⟩
  | 32 => ⟨S100, .f32⟩
  | 33 => ⟨S100x1, .f32⟩
  | 34 => ⟨S100, .f32⟩
  | 35 => ⟨S100x1, .f32⟩
  | 36 => ⟨S100, .f32⟩
  | 37 => ⟨S100, .f32⟩
  | 38 => ⟨S_, .f32⟩
  | 39 => ⟨S100, .f32⟩
  | 40 => ⟨S100, .f32⟩
  | 41 => ⟨S100, .f32⟩
  | 42 => ⟨S20100x1, .f32⟩
  | 43 => ⟨S20100, .f32⟩
  | 44 => ⟨S20100x1, .f32⟩
  | 45 => ⟨S100x1, .f32⟩
  | 46 => ⟨S100, .f32⟩
  | 47 => ⟨S1x100, .f32⟩
  | 48 => ⟨S20100x100, .f32⟩
  | 49 => ⟨S20100x100, .f32⟩
  | 50 => ⟨S20100x100, .f32⟩
  | 51 => ⟨S20100x1, .f32⟩
  | 52 => ⟨S20100, .f32⟩
  | 53 => ⟨S20100x1, .f32⟩
  | 54 => ⟨S100x1, .f32⟩
  | 55 => ⟨S100, .f32⟩
  | 56 => ⟨S1x100, .f32⟩
  | 57 => ⟨S20100x100, .f32⟩
  | 58 => ⟨S20100x100, .f32⟩
  | 59 => ⟨S20100x100, .f32⟩
  | 60 => ⟨S20100x1, .f32⟩
  | 61 => ⟨S20100, .f32⟩
  | 62 => ⟨S20100x1, .f32⟩
  | 63 => ⟨S100x1, .f32⟩
  | 64 => ⟨S100, .f32⟩
  | 65 => ⟨S1x100, .f32⟩
  | 66 => ⟨S20100x100, .f32⟩
  | 67 => ⟨S20100x100, .f32⟩
  | 68 => ⟨S20100x100, .f32⟩
  | 69 => ⟨S20100x1, .f32⟩
  | 70 => ⟨S20100, .f32⟩
  | 71 => ⟨S20100x1, .f32⟩
  | 72 => ⟨S100x1, .f32⟩
  | 73 => ⟨S100, .f32⟩
  | 74 => ⟨S1x100, .f32⟩
  | 75 => ⟨S20100x100, .f32⟩
  | 76 => ⟨S20100x100, .f32⟩
  | 77 => ⟨S20100x100, .f32⟩
  | 78 => ⟨S20100x100, .f32⟩
  | 79 => ⟨S_, .f32⟩
  | 80 => ⟨S20100x100, .f32⟩
  | 81 => ⟨S20100x100, .f32⟩
  | 82 => ⟨S_, .f32⟩
  | 83 => ⟨S20100x100, .f32⟩
  | 84 => ⟨S20100x100, .f32⟩
  | 85 => ⟨S20100x100, .f32⟩
  | 86 => ⟨S_, .f32⟩
  | 87 => ⟨S20100x100, .f32⟩
  | 88 => ⟨S20100x100, .f32⟩
  | 89 => ⟨S_, .f32⟩
  | 90 => ⟨S20100x100, .f32⟩
  | 91 => ⟨S20100x100, .f32⟩
  | 92 => ⟨S20100x100, .f32⟩
  | 93 => ⟨S20100x1, .f32⟩
  | 94 => ⟨S1x100, .f32⟩
  | 95 => ⟨S20100x100, .f32⟩
  | 96 => ⟨S20100x100, .f32⟩
  | 97 => ⟨S20100x100, .f32⟩
  | 98 => ⟨S20100x100, .f32⟩
  | 99 => ⟨S20100x100, .f32⟩
  | 100 => ⟨S20100x100, .i32⟩
  | 101 => ⟨S_, .f32⟩
  | 102 => ⟨S20100, .f32⟩
  | 103 => ⟨S20100x1, .f32⟩
  | 104 => ⟨S20100x100, .f32⟩
  | 105 => ⟨S20100x100, .i1⟩
  | 106 => ⟨S_, .i32⟩
  | 107 => ⟨S_, .i32⟩
  | 108 => ⟨S20100x100, .i32⟩
  | 109 => ⟨S20100x100, .i32⟩
  | 110 => ⟨S_, .i32⟩
  | 111 => ⟨S20100, .i32⟩
  | 112 => ⟨S_, .f32⟩
  | 113 => ⟨S20100, .f32⟩
  | 114 => ⟨S20100, .f32⟩
  | 115 => ⟨S20100, .i32⟩
  | 116 => ⟨S20100, .f32⟩
  | 117 => ⟨S20100, .i32⟩
  | 118 => ⟨S256, .i32⟩
  | 119 => ⟨S256, .i32⟩
  | 120 => ⟨S_, .i32⟩
  | 121 => ⟨S256, .i32⟩
  | 122 => ⟨S256, .i1⟩
  | 123 => ⟨S_, .i32⟩
  | 124 => ⟨S256, .i32⟩
  | 125 => ⟨S256, .i32⟩
  | 126 => ⟨S256, .i32⟩
  | 127 => ⟨S256x1, .i32⟩
  | _ => ⟨S1x20000x4, .f32⟩

abbrev hbmTy0_1 (i : Nat) : BufTy := match i % 128 with
  | 0 => ⟨S256, .f32⟩
  | 1 => ⟨S_, .f32⟩
  | 2 => ⟨S256, .f32⟩
  | 3 => ⟨S256, .i1⟩
  | 4 => ⟨S_, .i32⟩
  | 5 => ⟨S256, .i32⟩
  | 6 => ⟨S256, .i1⟩
  | 7 => ⟨S256, .i1⟩
  | 8 => ⟨S_, .i32⟩
  | 9 => ⟨S256, .i32⟩
  | 10 => ⟨S256, .i1⟩
  | 11 => ⟨S_, .i32⟩
  | 12 => ⟨S256, .i32⟩
  | 13 => ⟨S256, .i32⟩
  | 14 => ⟨S256, .i32⟩
  | 15 => ⟨S256x1, .i32⟩
  | 16 => ⟨S256x4, .f32⟩
  | 17 => ⟨S_, .i32⟩
  | 18 => ⟨S256, .i32⟩
  | 19 => ⟨S256, .i1⟩
  | 20 => ⟨S_, .i32⟩
  | 21 => ⟨S256, .i32⟩
  | 22 => ⟨S256, .i32⟩
  | 23 => ⟨S256, .i32⟩
  | 24 => ⟨S256x1, .i32⟩
  | 25 => ⟨S256, .i32⟩
  | 26 => ⟨S_, .i32⟩
  | 27 => ⟨S256, .i32⟩
  | 28 => ⟨S256, .i1⟩
  | 29 => ⟨S_, .i32⟩
  | 30 => ⟨S256, .i32⟩
  | 31 => ⟨S256, .i32⟩
  | 32 => ⟨S256, .i32⟩
  | 33 => ⟨S256x1, .i32⟩
  | 34 => ⟨S256x21, .f32⟩
  | 35 => ⟨S_, .f32⟩
  | 36 => ⟨S256x21, .f32⟩
  | 37 => ⟨S_, .i32⟩
  | 38 => ⟨S1, .i32⟩
  | 39 => ⟨S_, .f32⟩
  | 40 => ⟨S256, .f32⟩
  | 41 => ⟨S256x21, .f32⟩
  | 42 => ⟨S256x1, .i1⟩
  | 43 => ⟨S256x21, .i1⟩
  | 44 => ⟨S256x21, .f32⟩
  | 45 => ⟨S_, .i32⟩
  | 46 => ⟨S256, .i32⟩
  | 47 => ⟨S256, .i1⟩
  | 48 => ⟨S_, .i32⟩
  | 49 => ⟨S256, .i32⟩
  | 50 => ⟨S256, .i32⟩
  | 51 => ⟨S256, .i32⟩
  | 52 => ⟨S256x1, .i32⟩
  | 53 => ⟨S256x4, .f32⟩
  | 54 => ⟨S256x1, .f32⟩
  | 55 => ⟨S256, .f32⟩
  | 56 => ⟨S256x1, .f32⟩
  | 57 => ⟨S256, .f32⟩
  | 58 => ⟨S256, .f32⟩
  | 59 => ⟨S_, .f32⟩
  | 60 => ⟨S256, .f32⟩
  | 61 => ⟨S256, .f32⟩
  | 62 => ⟨S256x1, .f32⟩
  | 63 => ⟨S256, .f32⟩
  | 64 => ⟨S256x1, .f32⟩
  | 65 => ⟨S256, .f32⟩
  | 66 => ⟨S256, .f32⟩
  | 67 => ⟨S_, .f32⟩
  | 68 => ⟨S256, .f32⟩
  | 69 => ⟨S256, .f32⟩
  | 70 => ⟨S256x1, .f32⟩
  | 71 => ⟨S256, .f32⟩
  | 72 => ⟨S_, .f32⟩
  | 73 => ⟨S256, .f32⟩
  | 74 => ⟨S256, .f32⟩
  | 75 => ⟨S256, .f32⟩
  | 76 => ⟨S256x1, .f32⟩
  | 77 => ⟨S256, .f32⟩
  | 78 => ⟨S_, .f32⟩
  | 79 => ⟨S256, .f32⟩
  | 80 => ⟨S256, .f32⟩
  | 81 => ⟨S256, .f32⟩
  | 82 => ⟨S256x1, .f32⟩
  | 83 => ⟨S256, .f32⟩
  | 84 => ⟨S256x1, .f32⟩
  | 85 => ⟨S256, .f32⟩
  | 86 => ⟨S256, .f32⟩
  | 87 => ⟨S_, .f32⟩
  | 88 => ⟨S256, .f32⟩
  | 89 => ⟨S256, .f32⟩
  | 90 => ⟨S256x1, .f32⟩
  | 91 => ⟨S256, .f32⟩
  | 92 => ⟨S256x1, .f32⟩
  | 93 => ⟨S256, .f32⟩
  | 94 => ⟨S256, .f32⟩
  | 95 => ⟨S_, .f32⟩
  | 96 => ⟨S256, .f32⟩
  | 97 => ⟨S256, .f32⟩
  | 98 => ⟨S256x1, .f32⟩
  | 99 => ⟨S256, .f32⟩
  | 100 => ⟨S_, .f32⟩
  | 101 => ⟨S256, .f32⟩
  | 102 => ⟨S256, .f32⟩
  | 103 => ⟨S256, .f32⟩
  | 104 => ⟨S256x1, .f32⟩
  | 105 => ⟨S256, .f32⟩
  | 106 => ⟨S_, .f32⟩
  | 107 => ⟨S256, .f32⟩
  | 108 => ⟨S256, .f32⟩
  | 109 => ⟨S256, .f32⟩
  | 110 => ⟨S256, .f32⟩
  | 111 => ⟨S256, .f32⟩
  | 112 => ⟨S256, .f32⟩
  | 113 => ⟨S256, .f32⟩
  | 114 => ⟨S256, .f32⟩
  | 115 => ⟨S256, .f32⟩
  | 116 => ⟨S256, .f32⟩
  | 117 => ⟨S256, .f32⟩
  | 118 => ⟨S256x1, .f32⟩
  | 119 => ⟨S256x1, .f32⟩
  | 120 => ⟨S256x1, .f32⟩
  | 121 => ⟨S256x1, .f32⟩
  | 122 => ⟨S256x4, .f32⟩
  | 123 => ⟨S256x21, .i32⟩
  | 124 => ⟨S_, .f32⟩
  | 125 => ⟨S256, .f32⟩
  | 126 => ⟨S256x1, .f32⟩
  | 127 => ⟨S256x21, .f32⟩
  | _ => ⟨S1x20000x4, .f32⟩

abbrev hbmTy0_2 (i : Nat) : BufTy := match i % 128 with
  | 0 => ⟨S256x21, .i1⟩
  | 1 => ⟨S_, .i32⟩
  | 2 => ⟨S_, .i32⟩
  | 3 => ⟨S256x21, .i32⟩
  | 4 => ⟨S256x21, .i32⟩
  | 5 => ⟨S_, .i32⟩
  | 6 => ⟨S256, .i32⟩
  | 7 => ⟨S256x1, .i32⟩
  | 8 => ⟨S1x21, .i32⟩
  | 9 => ⟨S256x21, .i32⟩
  | 10 => ⟨S256x21, .i32⟩
  | 11 => ⟨S256x21, .i1⟩
  | 12 => ⟨S256x21, .f32⟩
  | 13 => ⟨S256x21x1, .f32⟩
  | 14 => ⟨S256x1x4, .f32⟩
  | 15 => ⟨S256x21x4, .f32⟩
  | 16 => ⟨S256x21x4, .f32⟩
  | 17 => ⟨S256x21x4, .f32⟩
  | 18 => ⟨S256x1x1, .i1⟩
  | 19 => ⟨S256x1x1, .f32⟩
  | 20 => ⟨S256x21x4, .f32⟩
  | 21 => ⟨S256x21x4, .f32⟩
  | 22 => ⟨S256x84, .f32⟩
  | _ => ⟨S1x20000x4, .f32⟩

abbrev hbmTy (i : Nat) : BufTy := match i / 128 with
  | 0 => hbmTy0_0 i
  | 1 => hbmTy0_1 i
  | 2 => hbmTy0_2 i
  | _ => ⟨S1x20000x4, .f32⟩

abbrev bufTy : (tb : Table) → Fin (tcTables nBuf tb) → BufTy
  | .hbm, ⟨i, _⟩ => hbmTy i
  | _, _ => ⟨S1x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_cst_3 : Ref sig .tc := ⟨.hbm, 79, rfl⟩
abbrev main_v72 : Ref sig .tc := ⟨.hbm, 80, rfl⟩
abbrev main_v73 : Ref sig .tc := ⟨.hbm, 81, rfl⟩
abbrev main_cst_4 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_5 : Ref sig .tc := ⟨.hbm, 86, rfl⟩
abbrev main_v77 : Ref sig .tc := ⟨.hbm, 87, rfl⟩
abbrev main_v78 : Ref sig .tc := ⟨.hbm, 88, rfl⟩
abbrev main_cst_6 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_7 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_c : Ref sig .tc := ⟨.hbm, 106, rfl⟩
abbrev main_call0_v0 : Ref sig .tc := ⟨.hbm, 107, rfl⟩
abbrev main_call0_v1 : Ref sig .tc := ⟨.hbm, 108, rfl⟩
abbrev main_v94 : Ref sig .tc := ⟨.hbm, 109, rfl⟩
abbrev main_c_8 : Ref sig .tc := ⟨.hbm, 110, rfl⟩
abbrev main_v95 : Ref sig .tc := ⟨.hbm, 111, rfl⟩
abbrev main_cst_9 : Ref sig .tc := ⟨.hbm, 112, rfl⟩
abbrev main_v96 : Ref sig .tc := ⟨.hbm, 113, rfl⟩
abbrev main_v97 : Ref sig .tc := ⟨.hbm, 114, rfl⟩
abbrev main_call1_v0 : Ref sig .tc := ⟨.hbm, 115, rfl⟩
abbrev main_call1_v1_0 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_c_10 : Ref sig .tc := ⟨.hbm, 120, rfl⟩
abbrev main_v101 : Ref sig .tc := ⟨.hbm, 121, rfl⟩
abbrev main_v102 : Ref sig .tc := ⟨.hbm, 122, rfl⟩
abbrev main_c_11 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_cst_12 : Ref sig .tc := ⟨.hbm, 129, rfl⟩
abbrev main_v108 : Ref sig .tc := ⟨.hbm, 130, rfl⟩
abbrev main_v109 : Ref sig .tc := ⟨.hbm, 131, rfl⟩
abbrev main_c_13 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_c_14 : Ref sig .tc := ⟨.hbm, 136, rfl⟩
abbrev main_v113 : Ref sig .tc := ⟨.hbm, 137, rfl⟩
abbrev main_v114 : Ref sig .tc := ⟨.hbm, 138, rfl⟩
abbrev main_c_15 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_c_16 : Ref sig .tc := ⟨.hbm, 145, rfl⟩
abbrev main_v120 : Ref sig .tc := ⟨.hbm, 146, rfl⟩
abbrev main_v121 : Ref sig .tc := ⟨.hbm, 147, rfl⟩
abbrev main_c_17 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_c_18 : Ref sig .tc := ⟨.hbm, 154, rfl⟩
abbrev main_v127 : Ref sig .tc := ⟨.hbm, 155, rfl⟩
abbrev main_v128 : Ref sig .tc := ⟨.hbm, 156, rfl⟩
abbrev main_c_19 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_20 : Ref sig .tc := ⟨.hbm, 163, rfl⟩
abbrev main_v134 : Ref sig .tc := ⟨.hbm, 164, rfl⟩
abbrev main_c_21 : Ref sig .tc := ⟨.hbm, 165, rfl⟩
abbrev main_v135 : Ref sig .tc := ⟨.hbm, 166, rfl⟩
abbrev main_cst_22 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_call2_v0 : Ref sig .tc := ⟨.hbm, 171, rfl⟩
abbrev main_v139 : Ref sig .tc := ⟨.hbm, 172, rfl⟩
abbrev main_c_23 : Ref sig .tc := ⟨.hbm, 173, rfl⟩
abbrev main_v140 : Ref sig .tc := ⟨.hbm, 174, rfl⟩
abbrev main_v141 : Ref sig .tc := ⟨.hbm, 175, rfl⟩
abbrev main_c_24 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_25 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_cst_26 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_cst_27 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_cst_28 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_cst_29 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_cst_30 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_cst_31 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_cst_32 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_cst_33 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_c_34 : Ref sig .tc := ⟨.hbm, 257, rfl⟩
abbrev main_call3_v0 : Ref sig .tc := ⟨.hbm, 258, rfl⟩
abbrev main_call3_v1 : Ref sig .tc := ⟨.hbm, 259, rfl⟩
abbrev main_v213 : Ref sig .tc := ⟨.hbm, 260, rfl⟩
abbrev main_c_35 : Ref sig .tc := ⟨.hbm, 261, rfl⟩
abbrev main_v214 : Ref sig .tc := ⟨.hbm, 262, rfl⟩
abbrev main_call4_v0 : Ref sig .tc := ⟨.hbm, 263, rfl⟩
abbrev main_call4_v1 : Ref sig .tc := ⟨.hbm, 264, rfl⟩
abbrev main_call4_v2 : Ref sig .tc := ⟨.hbm, 265, rfl⟩
abbrev main_call4_v3 : Ref sig .tc := ⟨.hbm, 266, rfl⟩
abbrev main_call4_v4 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩

abbrev nD : Nat := 1
abbrev τ : Topo := Topo.v7x

variable {F : FTy → Type} [FloatOps F]
-- ==== Proof.Stages.lean ====
/- The selection network of the kernel as a composition of a few stage functions on whole columns: a compare-exchange with the direction
   given by rows, one with the direction given by columns, and the halving of the columns. -/
module

public import proofs.«01_k».proof.Proof.Gen.KernelIdeal.Value

@[expose] public section

noncomputable section

namespace Cert.Select

open Cert.KernelIdeal Cert.KernelIdeal.Gen Idealize.ShloMosaic

variable {F : FTy → Type} [FloatOps F]

/-- 256 rows and `w` columns. -/
abbrev Blk (w : Nat) : Shape := ⟨2, ![256, w]⟩

/-- One row of `w` columns. -/
abbrev Row (w : Nat) : Shape := ⟨2, ![1, w]⟩

/-- The values being ranked and the packed indices that go with them. -/
abbrev Keys (F : FTy → Type) (w : Nat) : Type := FVec F (Blk w) .f32 × IVec (Blk w) 32

/-- The shapes of width `w` fit the operations the stages use. -/
structure Fits (w : Nat) : Prop where
  rot : (Blk w).Rotates 0 none
  col : (Blk 1).Broadcasts (Blk w)
  same : (Blk w).Broadcasts (Blk w)
  row : (Row w).Broadcasts (Blk w)
  io : (Row w).Iotas .tc 32 [1]

/-- Each width fits the network. -/
theorem fits : Fits 128 ∧ Fits 64 ∧ Fits 32 ∧ Fits 16 ∧ Fits 8 ∧ Fits 4 ∧ Fits 2 ∧ Fits 1 := by
  refine ⟨⟨?_, ?_, ?_, ?_, ?_⟩, ⟨?_, ?_, ?_, ?_, ?_⟩, ⟨?_, ?_, ?_, ?_, ?_⟩, ⟨?_, ?_, ?_, ?_, ?_⟩, ⟨?_, ?_, ?_, ?_, ?_⟩,
    ⟨?_, ?_, ?_, ?_, ?_⟩, ⟨?_, ?_, ?_, ?_, ?_⟩, ⟨?_, ?_, ?_, ?_, ?_⟩⟩ <;> decide

/-- The row numbers. -/
def rows : IVec (Blk 1) 32 := iota .tc S256x1 32 [0] iota_S256x1_d0_w32

/-- Where the bits `j` of the row number are clear. -/
def clear (j : BitVec 32) : IVec (Blk 1) 1 := cmpi .eq (andi rows (broadcast S256x1 j)) (broadcast S256x1 0#32)

/-- The columns below `h`. -/
def below (w : Nat) (hw : Fits w) (h : BitVec 32) : IVec (Row w) 1 := cmpi .slt (iota .tc (Row w) 32 [1] hw.io) (broadcast (Row w) h)

/-- The entry of the partner row. -/
def mate {α : Type} (w : Nat) (hw : Fits w) (a b : BitVec 32) (x : (Blk w).Idx → α) : (Blk w).Idx → α :=
  select (broadcastTo (Blk w) (shapeCast S256x1 (clear b) shapeCasts_S256x1_S256x1) hw.col)
    (dynamicRotate 0 a none x hw.rot) (dynamicRotate 0 b none x hw.rot)

/-- The first key ranks before the second. -/
def before {s : Shape} (x : FVec F s .f32) (p : IVec s 32) (y : FVec F s .f32) (q : IVec s 32) : IVec s 1 :=
  ori (cmpf .ogt x y) (andi (cmpf .oeq x y) (cmpi .slt p q))

/-- Two masks agree. -/
def agree {s : Shape} (a b : IVec s 1) : IVec s 1 := xori (xori a b) (constantI s 1 1#1)

/-- The directions of a stage whose direction is the row's. -/
def rowDir (w : Nat) (hw : Fits w) (b k : BitVec 32) : IVec (Blk w) 1 :=
  broadcastTo (Blk w) (broadcastTo (Blk w) (agree (clear b) (clear k)) hw.col) hw.same

/-- The directions of a stage whose direction is the column's. -/
def colDir (w : Nat) (hw : Fits w) (b h : BitVec 32) : IVec (Blk w) 1 :=
  agree (broadcastTo (Blk w) (broadcastTo (Blk w) (clear b) hw.col) hw.same)
    (broadcastTo (Blk w) (broadcastTo (Blk w) (below w hw h) hw.row) hw.same)

/-- One compare-exchange of every row with its partner, `dir` saying where the row keeps the entry that ranks first. -/
def exchange (w : Nat) (hw : Fits w) (a b : BitVec 32) (dir : IVec (Blk w) 1) (s : Keys F w) : Keys F w :=
  (select (agree (before s.1 s.2 (mate w hw a b s.1) (mate w hw a b s.2)) dir) s.1 (mate w hw a b s.1),
   select (agree (before s.1 s.2 (mate w hw a b s.1) (mate w hw a b s.2)) dir) s.2 (mate w hw a b s.2))

/-- A compare-exchange at distance `b`, the direction from bit `k` of the row. -/
def rowStage (w : Nat) (hw : Fits w) (a b k : BitVec 32) (s : Keys F w) : Keys F w := exchange w hw a b (rowDir w hw b k) s

/-- A compare-exchange at distance `b`, the direction from whether the column is below `h`. -/
def colStage (w : Nat) (hw : Fits w) (a b h : BitVec 32) (s : Keys F w) : Keys F w := exchange w hw a b (colDir w hw b h) s

/-- A compare-exchange of one column, the direction from whether the column is below `h`. -/
def oneStage (hw : Fits 1) (a b h : BitVec 32) (s : Keys F 1) : Keys F 1 :=
  let m := select (clear b) (dynamicRotate 0 a none s.1 hw.rot) (dynamicRotate 0 b none s.1 hw.rot)
  let p := select (clear b) (dynamicRotate 0 a none s.2 hw.rot) (dynamicRotate 0 b none s.2 hw.rot)
  let keep := agree (before s.1 s.2 m p) (agree (clear b) (broadcastTo (Blk 1) (broadcastTo (Blk 1) (below 1 hw h) hw.row) hw.same))
  (select keep s.1 m, select keep s.2 p)

/-- Of the first `w` columns and the next `w`, position for position the key that ranks first. -/
def halve (v w : Nat) (h0 : (Blk v).Slices ![0, 0] (Blk w)) (h1 : (Blk v).Slices ![0, w] (Blk w)) (s : Keys F v) : Keys F w :=
  let m := extractStridedSlice (Blk w) ![0, 0] s.1 h0
  let n := extractStridedSlice (Blk w) ![0, w] s.1 h1
  let p := extractStridedSlice (Blk w) ![0, 0] s.2 h0
  let q := extractStridedSlice (Blk w) ![0, w] s.2 h1
  (select (before m p n q) m n, select (before m p n q) p q)

end Cert.Select
-- ==== Proof.NetSort.lean ====
/- What the selection network computes, on plain vectors over a linear order: 128 columns of 256 entries are sorted, half of them descending
   and half ascending, then halved seven times; the last column holds the 256 greatest entries, in order. -/
module

public import Idealize.ShloMosaic.Lib.SortNet.Sorts
public import Idealize.ShloMosaic.Lib.SortNet.Fold
public import Idealize.ShloMosaic.Lib.SortNet.TopList
public import Mathlib.Algebra.BigOperators.Fin
public import Mathlib.Data.Multiset.Basic

@[expose] public section

namespace Cert.Select

open Idealize.ShloMosaic Idealize.ShloMosaic.SortNet

variable {α : Type} [LinearOrder α]

/-- The merge of one column, the greatest entry first (`d = true`) or last. -/
def mergeDir (d : Bool) : Network (2 ^ 8) := (List.range 8).reverse.flatMap fun s => stage 8 s fun _ => d

/-- A column sorted in direction `d`. -/
def SortedDir (d : Bool) (v : Fin (2 ^ 8) → α) : Prop := (d = true → Antitone v) ∧ (d = false → Monotone v)

/-- A merge sorts a column that descends and then ascends, in the direction asked for. -/
theorem sortedDir_merge (d : Bool) (v : Fin (2 ^ 8) → α) (hv : DescAsc v) : SortedDir d (Network.apply (mergeDir d) v) := by
  cases d
  · exact ⟨fun h => by simp at h, fun _ => mergeAscNet_apply_monotone 8 v hv⟩
  · exact ⟨fun _ => mergeDescNet_apply_antitone 8 v hv, fun h => by simp at h⟩

/-- After the first seven levels a column descends in its lower half and ascends in its upper half. -/
theorem descAsc_levels (v : Fin (2 ^ 8) → α) : DescAsc (Network.apply (levelsNet 8 true 7) v) := by
  have h0 := (sortNet_levels 8 true v 7 (by decide) ⟨0, by decide⟩).1 (by decide)
  have h1 := (sortNet_levels 8 true v 7 (by decide) ⟨1, by decide⟩).2 (by decide)
  refine ⟨128, Or.inl ⟨fun i j hij hj => ?_, fun i j hij hi => ?_⟩⟩
  · have hij' : i.val ≤ j.val := hij
    have hi' : i.val < 128 := lt_of_le_of_lt hij' hj
    have h := h0 (show (⟨i.val, hi'⟩ : Fin (2 ^ 7)) ≤ ⟨j.val, hj⟩ from hij')
    have ei : chunkPos (show 7 ≤ 8 by decide) ⟨0, by decide⟩ (⟨i.val, hi'⟩ : Fin (2 ^ 7)) = i := Fin.ext (by simp [chunkPos])
    have ej : chunkPos (show 7 ≤ 8 by decide) ⟨0, by decide⟩ (⟨j.val, hj⟩ : Fin (2 ^ 7)) = j := Fin.ext (by simp [chunkPos])
    rw [← ei, ← ej]
    exact h
  · have hij' : i.val ≤ j.val := hij
    have hi2 := i.isLt
    have hj2 := j.isLt
    have h := h1 (show (⟨i.val - 128, by omega⟩ : Fin (2 ^ 7)) ≤ ⟨j.val - 128, by omega⟩ from Nat.sub_le_sub_right hij' 128)
    have ei : chunkPos (show 7 ≤ 8 by decide) ⟨1, by decide⟩ (⟨i.val - 128, by omega⟩ : Fin (2 ^ 7)) = i :=
      Fin.ext (by simp [chunkPos]; omega)
    have ej : chunkPos (show 7 ≤ 8 by decide) ⟨1, by decide⟩ (⟨j.val - 128, by omega⟩ : Fin (2 ^ 7)) = j :=
      Fin.ext (by simp [chunkPos]; omega)
    rw [← ei, ← ej]
    exact h

/-! ## The greatest entries of a multiset -/

/-- The `k` greatest entries of a multiset, in order. -/
noncomputable def topM (k : Nat) (m : Multiset α) : List α := topList k m.toList

/-- The greatest of a list, taken as a multiset. -/
theorem topM_coe (k : Nat) (l : List α) : topM k (l : Multiset α) = topList k l :=
  topList_perm (Multiset.coe_eq_coe.mp (Multiset.coe_toList (l : Multiset α)))

/-- Only the greatest entries of one part matter. -/
theorem topM_add (k : Nat) (a b : Multiset α) : topM k (a + b) = topM k ((topM k a : Multiset α) + b) := by
  induction a using Quotient.inductionOn with
  | _ la =>
    induction b using Quotient.inductionOn with
    | _ lb =>
      show topM k ((la : Multiset α) + (lb : Multiset α)) = topM k ((topM k (la : Multiset α) : Multiset α) + (lb : Multiset α))
      rw [topM_coe, Multiset.coe_add, topM_coe, Multiset.coe_add, topM_coe, topList_append_topList]

/-- Two parts with the same greatest have a union with the same greatest. -/
theorem topM_add_congr (k : Nat) {a b a' b' : Multiset α} (ha : topM k a = topM k a') (hb : topM k b = topM k b') :
    topM k (a + b) = topM k (a' + b') := by
  rw [topM_add, ha, ← topM_add, add_comm a' b, topM_add, hb, ← topM_add, add_comm]

/-- Parts with the same greatest have unions with the same greatest. -/
theorem topM_sum_congr (k : Nat) {ι : Type} (s : Finset ι) (f g : ι → Multiset α) (h : ∀ c, topM k (f c) = topM k (g c)) :
    topM k (∑ c ∈ s, f c) = topM k (∑ c ∈ s, g c) := by
  classical
  induction s using Finset.induction_on with
  | empty => rfl
  | insert c s hc ih => rw [Finset.sum_insert hc, Finset.sum_insert hc]; exact topM_add_congr k (h c) ih

/-! ## The columns -/

/-- `w` columns of 256 entries. -/
abbrev Cols (α : Type) (w : Nat) : Type := Fin w → Fin (2 ^ 8) → α

/-- All entries of the columns. -/
def entries {w : Nat} (x : Cols α w) : Multiset α := ∑ c, ((List.ofFn (x c) : List α) : Multiset α)

/-- The columns below `h` are sorted descending, the others ascending. -/
def Sorted {w : Nat} (h : Nat) (x : Cols α w) : Prop := ∀ c : Fin w, SortedDir (decide (c.val < h)) (x c)

/-- The last level of each column's sort. -/
def settle {w : Nat} (h : Nat) (x : Cols α w) : Cols α w := fun c => Network.apply (mergeDir (decide (c.val < h))) (x c)

/-- Position for position the greater entry of column `c` and column `c + w`. -/
def halveCols {v w : Nat} (hv : v = w + w) (x : Cols α v) : Cols α w := fun c i =>
  max (x ⟨c.val, by have := c.isLt; omega⟩ i) (x ⟨c.val + w, by have := c.isLt; omega⟩ i)

/-- A network rearranges a column. -/
theorem perm_apply (N : Network (2 ^ 8)) (v : Fin (2 ^ 8) → α) : (List.ofFn (Network.apply N v)).Perm (List.ofFn v) := by
  obtain ⟨σ, hσ⟩ := Network.exists_perm N v
  rw [hσ]
  exact Equiv.Perm.ofFn_comp_perm σ v

/-- The whole sort of the columns: sorted, the entries unchanged. -/
theorem sort_cols (h : Nat) {w : Nat} (x : Cols α w) :
    Sorted h (settle h fun c => Network.apply (levelsNet 8 true 7) (x c)) ∧
      entries (settle h fun c => Network.apply (levelsNet 8 true 7) (x c)) = entries x := by
  refine ⟨fun c => sortedDir_merge _ _ (descAsc_levels (x c)), Finset.sum_congr rfl fun c _ => ?_⟩
  exact Multiset.coe_eq_coe.mpr ((perm_apply _ _).trans (perm_apply _ _))

/-- One halving: the columns are sorted again and the 256 greatest entries are kept. -/
theorem halve_step {v w : Nat} (hv : v = w + w) (h : Nat) (x : Cols α v) (hx : Sorted w x) :
    Sorted h (settle h (halveCols hv x)) ∧ topM 256 (entries (settle h (halveCols hv x))) = topM 256 (entries x) := by
  have hd : ∀ c : Fin w, Antitone (x ⟨c.val, by have := c.isLt; omega⟩) := fun c => (hx _).1 (by simp)
  have ha : ∀ c : Fin w, Monotone (x ⟨c.val + w, by have := c.isLt; omega⟩) := fun c => (hx _).2 (by simp)
  refine ⟨fun c => sortedDir_merge _ _ (descAsc_max _ _ (hd c) (ha c)), ?_⟩
  have e : entries x = ∑ c : Fin w, (((List.ofFn (x ⟨c.val, by have := c.isLt; omega⟩) : List α) : Multiset α)
      + ((List.ofFn (x ⟨c.val + w, by have := c.isLt; omega⟩) : List α) : Multiset α)) := by
    subst hv
    unfold entries
    rw [Fin.sum_univ_add, ← Finset.sum_add_distrib]
    refine Finset.sum_congr rfl fun c _ => ?_
    congr 3
    exact congrArg x (Fin.ext (by simp [Nat.add_comm]))
  rw [e]
  refine topM_sum_congr 256 _ _ _ fun c => ?_
  have hp := (perm_apply (mergeDir (decide (c.val < h))) (halveCols hv x c)).trans (perm_apply (mergeDescNet 8) (halveCols hv x c)).symm
  have hf := (foldStep 8 _ _ (hd c) (ha c)).2
  rw [Multiset.coe_add, topM_coe, topM_coe, ← topList_topList 256 (_ ++ _)]
  refine topList_perm (hp.trans ?_)
  rw [show (256 : Nat) = 2 ^ 8 from rfl, ← hf]
  rfl

/-- The last column after the seven halvings. -/
def lastColumn (x : Cols α 128) : Cols α 1 :=
  settle 1 (halveCols (by decide) (settle 1 (halveCols (v := 4) (w := 2) (by decide) (settle 2 (halveCols (v := 8) (w := 4) (by decide)
    (settle 4 (halveCols (v := 16) (w := 8) (by decide) (settle 8 (halveCols (v := 32) (w := 16) (by decide)
      (settle 16 (halveCols (v := 64) (w := 32) (by decide) (settle 32 (halveCols (v := 128) (w := 64) (by decide)
        (settle 64 fun c => Network.apply (levelsNet 8 true 7) (x c)))))))))))))))

/-- The last column holds the 256 greatest of all the entries, in order. -/
theorem lastColumn_eq (x : Cols α 128) (l : List α) (hl : (l : Multiset α) = entries x) :
    List.ofFn (lastColumn x 0) = topList 256 l := by
  obtain ⟨s0, e0⟩ := sort_cols 64 x
  obtain ⟨s1, e1⟩ := halve_step (v := 128) (w := 64) (by decide) 32 _ s0
  obtain ⟨s2, e2⟩ := halve_step (v := 64) (w := 32) (by decide) 16 _ s1
  obtain ⟨s3, e3⟩ := halve_step (v := 32) (w := 16) (by decide) 8 _ s2
  obtain ⟨s4, e4⟩ := halve_step (v := 16) (w := 8) (by decide) 4 _ s3
  obtain ⟨s5, e5⟩ := halve_step (v := 8) (w := 4) (by decide) 2 _ s4
  obtain ⟨s6, e6⟩ := halve_step (v := 4) (w := 2) (by decide) 1 _ s5
  obtain ⟨s7, e7⟩ := halve_step (v := 2) (w := 1) (by decide) 1 _ s6
  have e : topM 256 (entries (lastColumn x)) = topList 256 l := by
    rw [← topM_coe, hl, ← e0, ← e1, ← e2, ← e3, ← e4, ← e5, ← e6, ← e7]
    rfl
  have hs : Antitone (lastColumn x 0) := (s7 0).1 (by decide)
  have h1 : entries (lastColumn x) = ((List.ofFn (lastColumn x 0) : List α) : Multiset α) := by
    unfold entries; rw [Fin.sum_univ_one]
  rw [h1, topM_coe, topList_eq_self ?_ (by simp)] at e
  · exact e
  · rw [List.pairwise_ofFn]
    exact fun i j hij => hs (le_of_lt hij)

end Cert.Select
-- ==== Proof.StageCols.lean ====
/- What the stages of `Stages.lean` do to a column of keys: each is one stage of a bitonic network, and the halving takes the greater key. -/
module

public import proofs.«01_k».proof.Proof.Stages
public import proofs.«01_k».proof.Proof.NetSort
public import Idealize.ShloMosaic.Lib.WordCmp
public import Idealize.ShloMosaic.Lib.ValueIdx
public import Idealize.ShloMosaic.Lib.Pipeline.Value
public import Mathlib.Data.Prod.Lex

@[expose] public section

noncomputable section

namespace Cert.Select

open Cert.KernelIdeal Cert.KernelIdeal.Gen Idealize.ShloMosaic Idealize.ShloMosaic.SortNet Idealize.ShloMosaic.ValueIdx

/-- The key of an entry: a greater value ranks first, and of equal values the smaller packed index. -/
abbrev Key : Type := EReal ×ₗ ℤᵒᵈ

/-- The key of a value and a packed index. -/
def key (m : Ideal .f32) (p : BitVec 32) : Key := toLex ((m : EReal), OrderDual.toDual p.toInt)

/-- The comparison of two keys, as the order of keys. -/
theorem key_lt (m n : Ideal .f32) (p q : BitVec 32) :
    key m p < key n q ↔ (m : EReal) < n ∨ (m : EReal) = n ∧ q.toInt < p.toInt := by
  unfold key
  rw [Prod.Lex.toLex_lt_toLex]
  rfl

/-- A key determines its value and its index. -/
theorem key_inj {m n : Ideal .f32} {p q : BitVec 32} (h : key m p = key n q) : m = n ∧ p = q := by
  have h' : ((m : EReal), OrderDual.toDual p.toInt) = ((n : EReal), OrderDual.toDual q.toInt) := toLex.injective h
  exact ⟨congrArg Prod.fst h', BitVec.eq_of_toInt_eq (congrArg (fun z => OrderDual.ofDual z.2) h')⟩

/-- The keys of the columns. -/
def colKeys {w : Nat} (x : Keys Ideal w) : Cols Key w := fun c i => key (x.1 (ix2 (n0 := 256) i c)) (x.2 (ix2 (n0 := 256) i c))

/-- Ranking before is having the greater key. -/
theorem before_at {s : Shape} (x : FVec Ideal s .f32) (p : IVec s 32) (y : FVec Ideal s .f32) (q : IVec s 32) (i : s.Idx) :
    before x p y q i = BitVec.ofBool (decide (key (y i) (q i) < key (x i) (p i))) := by
  show IntOp.ori (BitVec.ofBool (decide (_ < _))) (IntOp.andi (BitVec.ofBool (decide (_ = _))) (IntOp.cmpi .slt (p i) (q i))) = _
  rw [WordCmp.cmpi_slt_eq, WordCmp.andi_ofBool, WordCmp.ori_ofBool]
  congr 1
  rw [Bool.eq_iff_iff]
  simp only [Bool.or_eq_true, Bool.and_eq_true, decide_eq_true_eq, key_lt]
  constructor
  · rintro (h | ⟨h, h'⟩)
    · exact Or.inl h
    · exact Or.inr ⟨h.symm, h'⟩
  · rintro (h | ⟨h, h'⟩)
    · exact Or.inl h
    · exact Or.inr ⟨h.symm, h'⟩

/-- Agreement of two masks. -/
theorem agree_at {s : Shape} (a b : IVec s 1) (i : s.Idx) (p q : Bool) (ha : a i = BitVec.ofBool p) (hb : b i = BitVec.ofBool q) :
    agree a b i = BitVec.ofBool (p == q) := by
  show IntOp.xori (IntOp.xori (a i) (b i)) 1#1 = _
  rw [ha, hb]
  cases p <;> cases q <;> decide

/-- A selection by a truth value. -/
theorem select_ofBool {α : Type} (p : Bool) (a b : α) : Scalar.select (BitVec.ofBool p) a b = if p = true then a else b := by
  cases p <;> rfl

/-- The number of a row. -/
theorem rows_at (i : (Blk 1).Idx) : rows i = BitVec.ofNat 32 (i 0).val := by
  show BitVec.ofNat 32 (0 * 256 + (i 0).val) = _
  rw [Nat.zero_mul, Nat.zero_add]

/-- The mask of the clear bits. -/
theorem clear_at (s : Nat) (hs : s < 9) (i : (Blk 1).Idx) :
    clear (BitVec.ofNat 32 (2 ^ s)) i = BitVec.ofBool (decide ((i 0).val &&& 2 ^ s = 0)) := by
  show IntOp.cmpi .eq (IntOp.andi (rows i) (BitVec.ofNat 32 (2 ^ s))) 0#32 = _
  have h2 : 2 ^ s < 2 ^ 9 := Nat.pow_lt_pow_right (by decide) hs
  have hi : (i 0).val < 256 := (i 0).isLt
  rw [rows_at, WordCmp.cmpi_eq_eq_toNat]
  congr 1
  rw [decide_eq_decide]
  have e : (IntOp.andi (BitVec.ofNat 32 (i 0).val) (BitVec.ofNat 32 (2 ^ s))).toNat = (i 0).val &&& 2 ^ s := by
    show (BitVec.ofNat 32 (i 0).val &&& BitVec.ofNat 32 (2 ^ s)).toNat = _
    rw [BitVec.toNat_and, BitVec.toNat_ofNat, BitVec.toNat_ofNat, Nat.mod_eq_of_lt (by omega), Nat.mod_eq_of_lt (by omega)]
  rw [e]
  rfl

/-- A column read across the columns. -/
theorem col_at {α : Type} {w : Nat} (x : (Blk 1).Idx → α) (h : (Blk 1).Broadcasts (Blk w)) (i : Fin 256) (c : Fin w) :
    broadcastTo (Blk w) x h (ix2 i c) = x (ix2 i 0) :=
  broadcastTo_apply x h _ _ fun a => by fin_cases a <;> rfl

/-- A row read down the rows. -/
theorem row_at {α : Type} {w : Nat} (x : (Row w).Idx → α) (h : (Row w).Broadcasts (Blk w)) (i : Fin 256) (c : Fin w) :
    broadcastTo (Blk w) x h (ix2 i c) = x (ix2 0 c) :=
  broadcastTo_apply x h _ _ fun a => by
    fin_cases a
    · rfl
    · show c.val = if w = 1 then 0 else c.val
      have := c.isLt
      split <;> omega

/-- A block broadcast to itself. -/
theorem same_at {α : Type} {w : Nat} (x : (Blk w).Idx → α) (h : (Blk w).Broadcasts (Blk w)) (i : (Blk w).Idx) :
    broadcastTo (Blk w) x h i = x i := by
  refine broadcastTo_apply x h _ _ fun a => ?_
  have := (i a).isLt
  split
  · next h1 => exact Nat.lt_one_iff.mp (lt_of_lt_of_eq this h1)
  · rfl

/-- The mask of the columns below `h`. -/
theorem below_at {w : Nat} (hw : Fits w) (hw' : w ≤ 128) (h : Nat) (hh : h < 2 ^ 31) (c : Fin w) :
    below w hw (BitVec.ofNat 32 h) (ix2 0 c) = BitVec.ofBool (decide (c.val < h)) := by
  show IntOp.cmpi .slt (BitVec.ofNat 32 (0 * w + c.val)) (BitVec.ofNat 32 h) = _
  have := c.isLt
  rw [Nat.zero_mul, Nat.zero_add, WordCmp.cmpi_slt_ofNat (by omega) (by omega)]

/-- The two rotations read the partner's entry. -/
theorem rotate_pair {α : Type} {w : Nat} (hr : (Blk w).Rotates 0 none) (s : Nat) (hs : s < 8) (x : (Blk w).Idx → α) (i : Fin (2 ^ 8)) (c : Fin w) :
    (if decide (i.val &&& 2 ^ s = 0) = true then dynamicRotate 0 (BitVec.ofNat 32 (256 - 2 ^ s)) none x hr (ix2 (n0 := 256) i c)
      else dynamicRotate 0 (BitVec.ofNat 32 (2 ^ s)) none x hr (ix2 (n0 := 256) i c)) = x (ix2 (n0 := 256) (partner 8 s i) c) := by
  have h2 : 2 ^ s < 2 ^ 8 := Nat.pow_lt_pow_right (by decide) hs
  have h0 : 0 < 2 ^ s := Nat.two_pow_pos s
  have hi : i.val < 256 := i.isLt
  have hj : (partner 8 s i).val < 256 := (partner 8 s i).isLt
  have rot : ∀ n : Nat, n < 256 → (i.val + 256 - n) % 256 = (partner 8 s i).val →
      dynamicRotate 0 (BitVec.ofNat 32 n) none x hr (ix2 (n0 := 256) i c) = x (ix2 (n0 := 256) (partner 8 s i) c) := by
    intro n hn e
    refine congrArg x (funext fun b => ?_)
    have en : (BitVec.ofNat 32 n).toNat = n := by rw [BitVec.toNat_ofNat, Nat.mod_eq_of_lt (by omega)]
    fin_cases b
    · refine Fin.ext ?_
      show (i.val + 256 - ((BitVec.ofNat 32 n).toNat + 0) % 256) % 256 = _
      rw [en, show (n + 0) % 256 = n from Nat.mod_eq_of_lt hn]
      exact e
    · rfl
  split
  · next h =>
    have h := of_decide_eq_true h
    have e := partner_val_of_clear hs i h
    exact rot _ (by omega) (by omega)
  · next h =>
    have h : i.val &&& 2 ^ s ≠ 0 := fun h' => h (decide_eq_true h')
    obtain ⟨e1, e2⟩ := partner_val_of_set hs i h
    exact rot _ (by omega) (by omega)

/-- The partner of a row, read. -/
theorem mate_at {α : Type} {w : Nat} (hw : Fits w) (s : Nat) (hs : s < 8) (x : (Blk w).Idx → α) (i : Fin (2 ^ 8)) (c : Fin w) :
    mate w hw (BitVec.ofNat 32 (256 - 2 ^ s)) (BitVec.ofNat 32 (2 ^ s)) x (ix2 (n0 := 256) i c) = x (ix2 (n0 := 256) (partner 8 s i) c) := by
  rw [← rotate_pair hw.rot s hs x i c]
  unfold mate
  rw [WordCmp.select_at, shapeCast_self, col_at, clear_at s (by omega), select_ofBool]

/-- The partner's bit is the other one. -/
theorem clear_partner (s : Nat) (hs : s < 8) (j : Fin (2 ^ 8)) :
    decide ((partner 8 s j).val &&& 2 ^ s = 0) = !decide (j.val &&& 2 ^ s = 0) := by
  by_cases h : j.val &&& 2 ^ s = 0
  · have := partner_and hs j h
    have h0 : 0 < 2 ^ s := Nat.two_pow_pos s
    rw [decide_eq_true h, decide_eq_false (by omega)]
    rfl
  · have := partner_and_of_set hs j h
    rw [decide_eq_false h, decide_eq_true this]
    rfl

/-- Two selects on one mask, as the key of the chosen entry. -/
theorem key_select (b : Bool) (m n : Ideal .f32) (p q : BitVec 32) :
    key (Scalar.select (BitVec.ofBool b) m n) (Scalar.select (BitVec.ofBool b) p q) = if b = true then key m p else key n q := by
  cases b <;> rfl

/-- One compare-exchange of a column is one stage of the network. -/
theorem exchange_eq {w : Nat} (x y : Keys Ideal w) (s : Nat) (hs : s < 8) (W : Fin (2 ^ 8) → Bool) (hW : ∀ j, W (partner 8 s j) = W j)
    (c : Fin w) (mm : (Blk w).Idx → Ideal .f32) (mp : (Blk w).Idx → BitVec 32) (dir : IVec (Blk w) 1)
    (hmm : ∀ i : Fin (2 ^ 8), mm (ix2 (n0 := 256) i c) = x.1 (ix2 (n0 := 256) (partner 8 s i) c))
    (hmp : ∀ i : Fin (2 ^ 8), mp (ix2 (n0 := 256) i c) = x.2 (ix2 (n0 := 256) (partner 8 s i) c))
    (hdir : ∀ i : Fin (2 ^ 8), dir (ix2 (n0 := 256) i c) = BitVec.ofBool (decide (i.val &&& 2 ^ s = 0) == W i))
    (hy : y = (select (agree (before x.1 x.2 mm mp) dir) x.1 mm, select (agree (before x.1 x.2 mm mp) dir) x.2 mp)) :
    colKeys y c = Network.apply (stage 8 s W) (colKeys x c) := by
  have hst : stage 8 s W = stage 8 s fun j => decide (j.val &&& 2 ^ s = 0) == W j :=
    stage_congr fun i hi => by rw [decide_eq_true hi]; cases W i <;> rfl
  funext i
  rw [hst, apply_stage_select hs _ (fun j => by
    rw [clear_partner s hs, hW]
    cases decide (j.val &&& 2 ^ s = 0) <;> cases W j <;> rfl)]
  subst hy
  show key (Scalar.select (agree _ dir _) _ _) (Scalar.select (agree _ dir _) _ _) = _
  rw [agree_at _ _ _ _ _ (before_at x.1 x.2 mm mp _) (hdir i), key_select, hmm i, hmp i]
  simp only [beq_iff_eq]
  rfl

/-- A stage whose direction is the row's. -/
theorem rowStage_eq {w : Nat} (hw : Fits w) (s l : Nat) (hsl : s ≤ l) (hl : l < 7) (x : Keys Ideal w) (c : Fin w) :
    colKeys (rowStage w hw (BitVec.ofNat 32 (256 - 2 ^ s)) (BitVec.ofNat 32 (2 ^ s)) (BitVec.ofNat 32 (2 ^ (l + 1))) x) c =
      Network.apply (stage 8 s fun i => decide (i.val &&& 2 ^ (l + 1) = 0) == true) (colKeys x c) := by
  have hs : s < 8 := by omega
  refine exchange_eq x _ s hs _ (fun j => ?_) c _ _ _ (mate_at hw s hs x.1 · c) (mate_at hw s hs x.2 · c) (fun i => ?_) rfl
  · rw [partner_val hs]
    congr 2
    rw [eq_iff_iff, and_two_pow_eq_zero_iff_testBit, and_two_pow_eq_zero_iff_testBit, Nat.testBit_xor, Nat.testBit_two_pow_of_ne (by omega)]
    simp
  · unfold rowDir
    rw [same_at, col_at, agree_at _ _ _ _ _ (clear_at s (by omega) _) (clear_at (l + 1) (by omega) _)]
    simp

/-- A stage whose direction is the column's. -/
theorem colStage_eq {w : Nat} (hw : Fits w) (hw' : w ≤ 128) (s : Nat) (hs : s < 8) (h : Nat) (hh : h < 2 ^ 31) (x : Keys Ideal w) (c : Fin w) :
    colKeys (colStage w hw (BitVec.ofNat 32 (256 - 2 ^ s)) (BitVec.ofNat 32 (2 ^ s)) (BitVec.ofNat 32 h) x) c =
      Network.apply (stage 8 s fun _ => decide (c.val < h)) (colKeys x c) := by
  refine exchange_eq x _ s hs _ (fun j => rfl) c _ _ _ (mate_at hw s hs x.1 · c) (mate_at hw s hs x.2 · c) (fun i => ?_) rfl
  unfold colDir
  refine agree_at _ _ _ _ _ ?_ ?_
  · rw [same_at, col_at, clear_at s (by omega)]
  · rw [same_at, row_at, below_at hw hw' h hh]

/-- A stage of the single column. -/
theorem oneStage_eq (hw : Fits 1) (s : Nat) (hs : s < 8) (h : Nat) (hh : h < 2 ^ 31) (x : Keys Ideal 1) (c : Fin 1) :
    colKeys (oneStage hw (BitVec.ofNat 32 (256 - 2 ^ s)) (BitVec.ofNat 32 (2 ^ s)) (BitVec.ofNat 32 h) x) c =
      Network.apply (stage 8 s fun _ => decide (c.val < h)) (colKeys x c) := by
  have hm : ∀ {α : Type} (y : (Blk 1).Idx → α) (i : Fin (2 ^ 8)), select (clear (BitVec.ofNat 32 (2 ^ s)))
      (dynamicRotate 0 (BitVec.ofNat 32 (256 - 2 ^ s)) none y hw.rot) (dynamicRotate 0 (BitVec.ofNat 32 (2 ^ s)) none y hw.rot)
      (ix2 (n0 := 256) i c) = y (ix2 (n0 := 256) (partner 8 s i) c) := by
    intro α y i
    rw [← rotate_pair hw.rot s hs y i c, WordCmp.select_at, clear_at s (by omega), select_ofBool]
  refine exchange_eq x _ s hs _ (fun j => rfl) c _ _ _ (hm x.1) (hm x.2) (fun i => ?_) rfl
  refine agree_at _ _ _ _ _ ?_ ?_
  · rw [clear_at s (by omega)]
  · rw [same_at, row_at, below_at hw (by omega) h hh]

/-- The halving takes the greater key. -/
theorem halve_eq {v w : Nat} (hv : v = w + w) (h0 : (Blk v).Slices ![0, 0] (Blk w)) (h1 : (Blk v).Slices ![0, w] (Blk w)) (x : Keys Ideal v) :
    colKeys (halve v w h0 h1 x) = halveCols hv (colKeys x) := by
  funext c i
  have e0 : ∀ {α : Type} (y : (Blk v).Idx → α), extractStridedSlice (Blk w) ![0, 0] y h0 (ix2 (n0 := 256) i c) =
      y (ix2 (n0 := 256) i ⟨c.val, by have := c.isLt; omega⟩) := fun y => congrArg y (funext fun a => by
    fin_cases a
    · exact Fin.ext (Nat.zero_add _)
    · exact Fin.ext (Nat.zero_add _))
  have e1 : ∀ {α : Type} (y : (Blk v).Idx → α), extractStridedSlice (Blk w) ![0, w] y h1 (ix2 (n0 := 256) i c) =
      y (ix2 (n0 := 256) i ⟨c.val + w, by have := c.isLt; omega⟩) := fun y => congrArg y (funext fun a => by
    fin_cases a
    · exact Fin.ext (Nat.zero_add _)
    · exact Fin.ext (Nat.add_comm _ _))
  show key (Scalar.select (before _ _ _ _ _) _ _) (Scalar.select (before _ _ _ _ _) _ _) = _
  rw [before_at, key_select, e0, e0, e1, e1]
  unfold halveCols colKeys
  simp only [decide_eq_true_eq]
  split
  · next h => exact (max_eq_left h.le).symm
  · next h => exact (max_eq_right (not_lt.mp h)).symm

end Cert.Select
-- ==== Proof.Network.lean ====
/- The selection network as a whole: its stages in order, what the last column holds, and that the kernel's words compute it. -/
module

public import proofs.«01_k».proof.Proof.StageCols

@[expose] public section

noncomputable section

namespace Cert.Select

open Cert.KernelIdeal Cert.KernelIdeal.Gen Idealize.ShloMosaic Idealize.ShloMosaic.SortNet Idealize.ShloMosaic.ValueIdx

section Generic
variable {F : FTy → Type} [FloatOps F]

/-- One level of the sort of the columns. -/
def level (hw : Fits 128) (l : Nat) (x : Keys F 128) : Keys F 128 :=
  (List.range (l + 1)).reverse.foldl
    (fun x s => rowStage 128 hw (BitVec.ofNat 32 (256 - 2 ^ s)) (BitVec.ofNat 32 (2 ^ s)) (BitVec.ofNat 32 (2 ^ (l + 1))) x) x

/-- The first seven levels. -/
def levels (hw : Fits 128) (x : Keys F 128) : Keys F 128 := (List.range 7).foldl (fun x l => level hw l x) x

/-- A merge of all columns, the columns below `h` descending. -/
def mergeCols (w : Nat) (hw : Fits w) (h : Nat) (x : Keys F w) : Keys F w :=
  (List.range 8).reverse.foldl
    (fun x s => colStage w hw (BitVec.ofNat 32 (256 - 2 ^ s)) (BitVec.ofNat 32 (2 ^ s)) (BitVec.ofNat 32 h) x) x

/-- The merge of the single column. -/
def mergeOne (hw : Fits 1) (x : Keys F 1) : Keys F 1 :=
  (List.range 8).reverse.foldl
    (fun x s => oneStage hw (BitVec.ofNat 32 (256 - 2 ^ s)) (BitVec.ofNat 32 (2 ^ s)) (BitVec.ofNat 32 1) x) x

/-- The columns of width `v` have their two halves. -/
structure Halves (v w : Nat) : Prop where
  fst : (Blk v).Slices ![0, 0] (Blk w)
  snd : (Blk v).Slices ![0, w] (Blk w)

/-- Each width is twice the next. -/
theorem halves : Halves 128 64 ∧ Halves 64 32 ∧ Halves 32 16 ∧ Halves 16 8 ∧ Halves 8 4 ∧ Halves 4 2 ∧ Halves 2 1 := by
  refine ⟨⟨?_, ?_⟩, ⟨?_, ?_⟩, ⟨?_, ?_⟩, ⟨?_, ?_⟩, ⟨?_, ?_⟩, ⟨?_, ?_⟩, ⟨?_, ?_⟩⟩ <;> decide

/-- A halving and the merge after it. -/
def halveMerge (v w : Nat) (hw : Fits w) (hs : Halves v w) (h : Nat) (x : Keys F v) : Keys F w :=
  mergeCols w hw h (halve v w hs.fst hs.snd x)

/-- The whole network. -/
def network (x : Keys F 128) : Keys F 1 :=
  mergeOne fits.2.2.2.2.2.2.2 <| halve 2 1 halves.2.2.2.2.2.2.fst halves.2.2.2.2.2.2.snd <|
  halveMerge 4 2 fits.2.2.2.2.2.2.1 halves.2.2.2.2.2.1 1 <| halveMerge 8 4 fits.2.2.2.2.2.1 halves.2.2.2.2.1 2 <|
  halveMerge 16 8 fits.2.2.2.2.1 halves.2.2.2.1 4 <| halveMerge 32 16 fits.2.2.2.1 halves.2.2.1 8 <|
  halveMerge 64 32 fits.2.2.1 halves.2.1 16 <| halveMerge 128 64 fits.2.1 halves.1 32 <|
  mergeCols 128 fits.1 64 <| levels fits.1 x

end Generic

/-- Stages one after the other, as a network on a column. -/
theorem foldl_stages {w : Nat} (f : Keys Ideal w → Nat → Keys Ideal w) (N : Nat → Network (2 ^ 8)) (c : Fin w) (L : List Nat)
    (h : ∀ x, ∀ s ∈ L, colKeys (f x s) c = Network.apply (N s) (colKeys x c)) (x : Keys Ideal w) :
    colKeys (L.foldl f x) c = Network.apply (L.flatMap N) (colKeys x c) := by
  induction L generalizing x with
  | nil => rfl
  | cons s L ih =>
    rw [List.foldl_cons, List.flatMap_cons, Network.apply_append, ih (fun y t ht => h y t (List.mem_cons_of_mem _ ht)),
      h x s List.mem_cons_self]

/-- One level of the network, column by column. -/
theorem level_eq (hw : Fits 128) (l : Nat) (hl : l < 7) (x : Keys Ideal 128) (c : Fin 128) :
    colKeys (level hw l x) c = Network.apply (levelNet 8 true l) (colKeys x c) :=
  foldl_stages _ (fun s => stage 8 s fun i => decide (i.val &&& 2 ^ (l + 1) = 0) == true) c _ (fun y s hs =>
    rowStage_eq hw s l (by rw [List.mem_reverse, List.mem_range] at hs; omega) hl y c) x

/-- All levels of the network, column by column. -/
theorem levels_eq (hw : Fits 128) (x : Keys Ideal 128) (c : Fin 128) :
    colKeys (levels hw x) c = Network.apply (levelsNet 8 true 7) (colKeys x c) :=
  foldl_stages _ (levelNet 8 true) c _ (fun y l hl => level_eq hw l (List.mem_range.mp hl) y c) x

/-- A merge of every column with its partner, column by column. -/
theorem mergeCols_eq {w : Nat} (hw : Fits w) (hw' : w ≤ 128) (h : Nat) (hh : h < 2 ^ 31) (x : Keys Ideal w) :
    colKeys (mergeCols w hw h x) = settle h (colKeys x) := funext fun c =>
  foldl_stages _ (fun s => stage 8 s fun _ => decide (c.val < h)) c _ (fun y s hs =>
    colStage_eq hw hw' s (by rw [List.mem_reverse, List.mem_range] at hs; omega) h hh y c) x

/-- The last merge, of the one column left. -/
theorem mergeOne_eq (hw : Fits 1) (x : Keys Ideal 1) : colKeys (mergeOne hw x) = settle 1 (colKeys x) := funext fun c =>
  foldl_stages _ (fun s => stage 8 s fun _ => decide (c.val < 1)) c _ (fun y s hs =>
    oneStage_eq hw s (by rw [List.mem_reverse, List.mem_range] at hs; omega) 1 (by decide) y c) x

/-- A halving of the columns and the merge after it, column by column. -/
theorem halveMerge_eq {v w : Nat} (hw : Fits w) (hs : Halves v w) (hv : v = w + w) (hw' : w ≤ 128) (h : Nat) (hh : h < 2 ^ 31)
    (x : Keys Ideal v) : colKeys (halveMerge v w hw hs h x) = settle h (halveCols hv (colKeys x)) := by
  unfold halveMerge
  rw [mergeCols_eq hw hw' h hh, halve_eq hv]

/-- The network's last column in keys. -/
theorem network_eq (x : Keys Ideal 128) : colKeys (network x) = lastColumn (colKeys x) := by
  unfold network lastColumn
  rw [mergeOne_eq, halve_eq (by decide), halveMerge_eq _ _ (by decide) (by decide) _ (by decide),
    halveMerge_eq _ _ (by decide) (by decide) _ (by decide), halveMerge_eq _ _ (by decide) (by decide) _ (by decide),
    halveMerge_eq _ _ (by decide) (by decide) _ (by decide), halveMerge_eq _ _ (by decide) (by decide) _ (by decide),
    halveMerge_eq _ _ (by decide) (by decide) _ (by decide), mergeCols_eq _ (by decide) _ (by decide),
    funext (levels_eq _ x)]

section Words
variable {F : FTy → Type} [FloatOps F] (c : Dev nD) (arg0 : Memref sig Kind.tc Space.vmem S4x256x128 EltTy.f32) (harg0 : arg0.IsWhole)
  (arg1 : Memref sig Kind.tc Space.smem S100x4 EltTy.f32) (harg1 : arg1.IsWhole)
  (arg2 : Memref sig Kind.tc Space.vmem S4x100 EltTy.f32) (harg2 : arg2.IsWhole)
  (arg3 : Memref sig Kind.tc Space.vmem S21x100 EltTy.f32) (harg3 : arg3.IsWhole)
  (arg4 : Memref sig Kind.tc Space.vmem S256x4 EltTy.f32) (harg4 : arg4.IsWhole)
  (arg5 : Memref sig Kind.tc Space.vmem S256x21 EltTy.f32) (harg5 : arg5.IsWhole)
  (arg6 : Memref sig Kind.tc Space.vmem S256x84 EltTy.f32) (harg6 : arg6.IsWhole)
  (x0 : Vec F S4x256x128 EltTy.f32) (x1 : Vec F S100x4 EltTy.f32)

set_option maxRecDepth 20000 in
/-- The kernel's selected overlaps are the network's. -/
theorem selected_m : kernelRun0_A.sl.r_254 c arg0 harg0 arg1 harg1 arg2 harg2 arg3 harg3 arg4 harg4 arg5 harg5 arg6 harg6 x0 x1 =
    (network (kernelRun0_A.sl.r_25 c arg0 harg0 arg1 harg1 arg2 harg2 arg3 harg3 arg4 harg4 arg5 harg5 arg6 harg6 x0 x1,
      kernelRun0_A.sl.r_26 c arg0 harg0 arg1 harg1 arg2 harg2 arg3 harg3 arg4 harg4 arg5 harg5 arg6 harg6 x0 x1)).1 := by sl_kernel_rfl

set_option maxRecDepth 20000 in
/-- The kernel's selected packed indices are the network's. -/
theorem selected_p : kernelRun0_A.sl.r_255 c arg0 harg0 arg1 harg1 arg2 harg2 arg3 harg3 arg4 harg4 arg5 harg5 arg6 harg6 x0 x1 =
    (network (kernelRun0_A.sl.r_25 c arg0 harg0 arg1 harg1 arg2 harg2 arg3 harg3 arg4 harg4 arg5 harg5 arg6 harg6 x0 x1,
      kernelRun0_A.sl.r_26 c arg0 harg0 arg1 harg1 arg2 harg2 arg3 harg3 arg4 harg4 arg5 harg5 arg6 harg6 x0 x1)).2 := by sl_kernel_rfl

end Words

end Cert.Select
-- ==== Proof.Overlaps.lean ====
/- The kernel's overlap loops: each of the eight chunks of 32 rows runs over the 100 boxes keeping the greatest overlap so far and its box. -/
module

public import proofs.«01_k».proof.Proof.Gen.KernelIdeal.Value
public import Idealize.ShloMosaic.Lib.ValueIdx
public import Idealize.ShloMosaic.Lib.WholeRead

@[expose] public section

noncomputable section

namespace Cert.Select

open Cert.KernelIdeal Cert.KernelIdeal.Gen Idealize.ShloMosaic Idealize.ShloMosaic.ValueIdx

variable {F : FTy → Type} [FloatOps F]

/-- The overlap of the boxes `a b c d` of area `e` with the box `g h i j`. -/
def iou {s : Shape} (a b c d e : FVec F s .f32) (g h i j : F .f32) : FVec F s .f32 :=
  let one : F .f32 := Scalar.ofBits .f32 0x3F800000#32
  let zero : F .f32 := Scalar.ofBits .f32 0x00000000#32
  let iw := maximumf (addf (subf (minimumf c (broadcast s i)) (maximumf a (broadcast s g))) (broadcast s one)) (broadcast s zero)
  let ih := maximumf (addf (subf (minimumf d (broadcast s j)) (maximumf b (broadcast s h))) (broadcast s one)) (broadcast s zero)
  divf (mulf iw ih) (subf (addf e (broadcast s
    (Scalar.mulf (Scalar.addf (Scalar.subf i g) one) (Scalar.addf (Scalar.subf j h) one)))) (mulf iw ih))

/-- One trip: the greater of the overlap so far and this box's, and the box it came from. -/
def trip {s : Shape} (a b c d e : FVec F s .f32) (g h i j : F .f32) (t : BitVec 32) (acc : FVec F s .f32 × IVec s 32) :
    FVec F s .f32 × IVec s 32 :=
  (select (cmpf .ogt (iou a b c d e g h i j) acc.1) (iou a b c d e g h i j) acc.1,
   select (cmpf .ogt (iou a b c d e g h i j) acc.1) (broadcast s t) acc.2)

/-- The state before trip `k`. -/
def runs {s : Shape} (a b c d e : FVec F s .f32) (G : Vec F S100x4 .f32) : Nat → FVec F s .f32 × IVec s 32
  | 0 => (broadcast s (Scalar.ofBits .f32 0xBF800000#32), broadcast s 0#32)
  | k + 1 => if h : k < 100 then trip a b c d e (G (ix2 ⟨k, h⟩ 0)) (G (ix2 ⟨k, h⟩ 1)) (G (ix2 ⟨k, h⟩ 2)) (G (ix2 ⟨k, h⟩ 3))
      (BitVec.ofNat 32 k) (runs a b c d e G k) else runs a b c d e G k

/-- A recursion with these trips is that state. -/
theorem runs_eq {s : Shape} (a b c d e : FVec F s .f32) (G : Vec F S100x4 .f32) (st : Nat → FVec F s .f32 × IVec s 32)
    (h0 : st 0 = (broadcast s (Scalar.ofBits .f32 0xBF800000#32), broadcast s 0#32))
    (hs : ∀ k : Fin 100, st (k.val + 1) = trip a b c d e (G (ix2 k 0)) (G (ix2 k 1)) (G (ix2 k 2)) (G (ix2 k 3)) (BitVec.ofNat 32 k.val) (st k.val)) :
    st 100 = runs a b c d e G 100 := by
  have h : ∀ k, k ≤ 100 → st k = runs a b c d e G k := by
    intro k
    induction k with
    | zero => exact fun _ => h0
    | succ k ih =>
      intro hk
      have e1 := hs ⟨k, hk⟩
      rw [ih (by omega)] at e1
      rw [e1, runs, dif_pos (show k < 100 from hk)]
  exact h 100 le_rfl

variable (c : Dev nD) (arg0 : Memref sig Kind.tc Space.vmem S4x256x128 EltTy.f32) (harg0 : arg0.IsWhole)
  (arg1 : Memref sig Kind.tc Space.smem S100x4 EltTy.f32) (harg1 : arg1.IsWhole)
  (arg2 : Memref sig Kind.tc Space.vmem S4x100 EltTy.f32) (harg2 : arg2.IsWhole)
  (arg3 : Memref sig Kind.tc Space.vmem S21x100 EltTy.f32) (harg3 : arg3.IsWhole)
  (arg4 : Memref sig Kind.tc Space.vmem S256x4 EltTy.f32) (harg4 : arg4.IsWhole)
  (arg5 : Memref sig Kind.tc Space.vmem S256x21 EltTy.f32) (harg5 : arg5.IsWhole)
  (arg6 : Memref sig Kind.tc Space.vmem S256x84 EltTy.f32) (harg6 : arg6.IsWhole)
  (x0 : Vec F S4x256x128 EltTy.f32) (x1 : Vec F S100x4 EltTy.f32)

/-- The value a trip reads. -/
def word (off : Fin 2 → Nat) (inb : ∀ a, off a + S1x1.size a ≤ S100x4.size a) : F .f32 :=
  View.readAt (Elt F) arg1.view (Rect.unit (s := S100x4) off S1x1.size inb).toLoadRect (harg1.unread x1)
    (Shape.Idx.first (show 0 < S1x1.numel by decide))

omit [FloatOps F] in
/-- A ground-truth coordinate, as the kernel loads it. -/
theorem word_eq (off : Fin 2 → Nat) (inb : ∀ a, off a + S1x1.size a ≤ S100x4.size a) (k : Fin 100) (q : Fin 4)
    (h0 : off 0 = k.val) (h1 : off 1 = q.val) : word arg1 harg1 x1 off inb = x1 (ix2 k q) := by
  refine (harg1.readAt_unread x1 _ _).trans (congrArg x1 (funext fun a => ?_))
  fin_cases a
  · exact Fin.ext h0
  · exact Fin.ext h1

/-- The induction variable of trip `k`. -/
theorem iv_eq (k : Fin 100) : Scf.iv 0#32 1#32 k.val = BitVec.ofNat 32 k.val := by
  unfold Scf.iv
  rw [BitVec.zero_add, BitVec.mul_one]

/-- The turn of the loop, as a number. -/
theorem iv_toNat (k : Fin 100) : (Scf.iv 0#32 1#32 k.val).toNat = k.val := by
  rw [iv_eq, BitVec.toNat_ofNat, Nat.mod_eq_of_lt (by have := k.isLt; omega)]

/-- A trip by the words it reads. -/
theorem trip_words {s : Shape} (a b c d e : FVec F s .f32) (o1 o2 o3 o4 : Fin 2 → Nat) (i1 i2 i3 i4) (k : Fin 100)
    (h1 : o1 0 = (Scf.iv 0#32 1#32 k.val).toNat ∧ o1 1 = 0) (h2 : o2 0 = (Scf.iv 0#32 1#32 k.val).toNat ∧ o2 1 = 1)
    (h3 : o3 0 = (Scf.iv 0#32 1#32 k.val).toNat ∧ o3 1 = 2) (h4 : o4 0 = (Scf.iv 0#32 1#32 k.val).toNat ∧ o4 1 = 3) (acc) :
    trip a b c d e (word arg1 harg1 x1 o1 i1) (word arg1 harg1 x1 o2 i2) (word arg1 harg1 x1 o3 i3) (word arg1 harg1 x1 o4 i4)
      (Scf.iv 0#32 1#32 k.val) acc =
    trip a b c d e (x1 (ix2 k 0)) (x1 (ix2 k 1)) (x1 (ix2 k 2)) (x1 (ix2 k 3)) (BitVec.ofNat 32 k.val) acc := by
  rw [word_eq arg1 harg1 x1 o1 i1 k 0 (h1.1.trans (iv_toNat k)) h1.2, word_eq arg1 harg1 x1 o2 i2 k 1 (h2.1.trans (iv_toNat k)) h2.2,
    word_eq arg1 harg1 x1 o3 i3 k 2 (h3.1.trans (iv_toNat k)) h3.2, word_eq arg1 harg1 x1 o4 i4 k 3 (h4.1.trans (iv_toNat k)) h4.2, iv_eq]

/-- The first chunk. -/
theorem loop1 (v0 v2 v4 v6 : Vec F S1x256x128 .f32) :
    st_k0_t1 Variants.none c none arg0 harg0 arg1 harg1 arg2 harg2 arg3 harg3 arg4 harg4 arg5 harg5 arg6 harg6 v0 v2 v4 v6 (harg1.unread x1) (k0_pay9, k0_pay10)
      (Scf.trips k0_t1_loop.lb k0_t1_loop.ub k0_t1_loop.st) =
      runs (extractStridedSlice S32x128 ![0, 0] (k0_pay3 v0) slices_S256x128_o0_0_S32x128) (extractStridedSlice S32x128 ![0, 0] (k0_pay4 v2) slices_S256x128_o0_0_S32x128) (extractStridedSlice S32x128 ![0, 0] (k0_pay5 v4) slices_S256x128_o0_0_S32x128)
        (extractStridedSlice S32x128 ![0, 0] (k0_pay6 v6) slices_S256x128_o0_0_S32x128) (extractStridedSlice S32x128 ![0, 0] (k0_pay7 v0 v2 v4 v6) slices_S256x128_o0_0_S32x128) x1 100 := by
  refine runs_eq _ _ _ _ _ x1 (fun k => st_k0_t1 Variants.none c none arg0 harg0 arg1 harg1 arg2 harg2 arg3 harg3 arg4 harg4 arg5 harg5 arg6 harg6 v0 v2 v4 v6 (harg1.unread x1) (k0_pay9, k0_pay10) k)
    rfl fun k => ?_
  refine (st_k0_t1_succ Variants.none c none arg0 harg0 arg1 harg1 arg2 harg2 arg3 harg3 arg4 harg4 arg5 harg5 arg6 harg6 v0 v2 v4 v6 (harg1.unread x1)
    (k0_pay9, k0_pay10) k).trans ?_
  refine Eq.trans ?_ (trip_words arg1 harg1 x1 _ _ _ _ _ (k0_off1 k) (k0_off2 k) (k0_off3 k) (k0_off4 k) (k0_off1_inb k)
    (k0_off2_inb k) (k0_off3_inb k) (k0_off4_inb k) k ⟨rfl, rfl⟩ ⟨rfl, rfl⟩ ⟨rfl, rfl⟩ ⟨rfl, rfl⟩ _)
  sl_kernel_rfl

/-- The second chunk. -/
theorem loop2 (v1 v3 v5 v7 v14 : FVec F S256x128 .f32) (w0 w1 w2 w3 w4 : FVec F S32x128 .f32) :
    st_k0_t2 Variants.none c none arg0 harg0 arg1 harg1 arg2 harg2 arg3 harg3 arg4 harg4 arg5 harg5 arg6 harg6 v1 v3 v5 v7 v14 w0 w1 w2 w3 w4 k0_pay20 k0_pay21 0#32 (harg1.unread x1) (k0_pay20, k0_pay21)
      (Scf.trips k0_t2_loop.lb k0_t2_loop.ub k0_t2_loop.st) =
      runs w0 w1 w2 w3 w4 x1 100 := by
  refine runs_eq _ _ _ _ _ x1 (fun k => st_k0_t2 Variants.none c none arg0 harg0 arg1 harg1 arg2 harg2 arg3 harg3 arg4 harg4 arg5 harg5 arg6 harg6 v1 v3 v5 v7 v14 w0 w1 w2 w3 w4 k0_pay20 k0_pay21 0#32 (harg1.unread x1) (k0_pay20, k0_pay21) k)
    rfl fun k => ?_
  refine (st_k0_t2_succ Variants.none c none arg0 harg0 arg1 harg1 arg2 harg2 arg3 harg3 arg4 harg4 arg5 harg5 arg6 harg6 v1 v3 v5 v7 v14 w0 w1 w2 w3 w4 k0_pay20 k0_pay21 0#32 (harg1.unread x1)
    (k0_pay20, k0_pay21) k).trans ?_
  refine Eq.trans ?_ (trip_words arg1 harg1 x1 _ _ _ _ _ (k0_off5 k) (k0_off6 k) (k0_off7 k) (k0_off8 k) (k0_off5_inb k)
    (k0_off6_inb k) (k0_off7_inb k) (k0_off8_inb k) k ⟨rfl, rfl⟩ ⟨rfl, rfl⟩ ⟨rfl, rfl⟩ ⟨rfl, rfl⟩ _)
  sl_kernel_rfl

/-- The third chunk. -/
theorem loop3 (v1 v3 v5 v7 v14 : FVec F S256x128 .f32) (w0 w1 w2 w3 w4 : FVec F S32x128 .f32) :
    st_k0_t3 Variants.none c none arg0 harg0 arg1 harg1 arg2 harg2 arg3 harg3 arg4 harg4 arg5 harg5 arg6 harg6 v1 v3 v5 v7 v14 w0 w1 w2 w3 w4 k0_pay20 k0_pay21 0#32 (harg1.unread x1) (k0_pay26, k0_pay27)
      (Scf.trips k0_t3_loop.lb k0_t3_loop.ub k0_t3_loop.st) =
      runs (extractStridedSlice S32x128 ![64, 0] v1 slices_S256x128_o64_0_S32x128) (extractStridedSlice S32x128 ![64, 0] v3 slices_S256x128_o64_0_S32x128) (extractStridedSlice S32x128 ![64, 0] v5 slices_S256x128_o64_0_S32x128)
        (extractStridedSlice S32x128 ![64, 0] v7 slices_S256x128_o64_0_S32x128) (extractStridedSlice S32x128 ![64, 0] v14 slices_S256x128_o64_0_S32x128) x1 100 := by
  refine runs_eq _ _ _ _ _ x1 (fun k => st_k0_t3 Variants.none c none arg0 harg0 arg1 harg1 arg2 harg2 arg3 harg3 arg4 harg4 arg5 harg5 arg6 harg6 v1 v3 v5 v7 v14 w0 w1 w2 w3 w4 k0_pay20 k0_pay21 0#32 (harg1.unread x1) (k0_pay26, k0_pay27) k)
    rfl fun k => ?_
  refine (st_k0_t3_succ Variants.none c none arg0 harg0 arg1 harg1 arg2 harg2 arg3 harg3 arg4 harg4 arg5 harg5 arg6 harg6 v1 v3 v5 v7 v14 w0 w1 w2 w3 w4 k0_pay20 k0_pay21 0#32 (harg1.unread x1)
    (k0_pay26, k0_pay27) k).trans ?_
  refine Eq.trans ?_ (trip_words arg1 harg1 x1 _ _ _ _ _ (k0_off9 k) (k0_off10 k) (k0_off11 k) (k0_off12 k) (k0_off9_inb k)
    (k0_off10_inb k) (k0_off11_inb k) (k0_off12_inb k) k ⟨rfl, rfl⟩ ⟨rfl, rfl⟩ ⟨rfl, rfl⟩ ⟨rfl, rfl⟩ _)
  sl_kernel_rfl

/-- The fourth chunk. -/
theorem loop4 (v1 v3 v5 v7 v14 : FVec F S256x128 .f32) (w0 w1 w2 w3 w4 : FVec F S32x128 .f32) :
    st_k0_t4 Variants.none c none arg0 harg0 arg1 harg1 arg2 harg2 arg3 harg3 arg4 harg4 arg5 harg5 arg6 harg6 v1 v3 v5 v7 v14 w0 w1 w2 w3 w4 k0_pay20 k0_pay21 0#32 (harg1.unread x1) (k0_pay32, k0_pay33)
      (Scf.trips k0_t4_loop.lb k0_t4_loop.ub k0_t4_loop.st) =
      runs (extractStridedSlice S32x128 ![96, 0] v1 slices_S256x128_o96_0_S32x128) (extractStridedSlice S32x128 ![96, 0] v3 slices_S256x128_o96_0_S32x128) (extractStridedSlice S32x128 ![96, 0] v5 slices_S256x128_o96_0_S32x128)
        (extractStridedSlice S32x128 ![96, 0] v7 slices_S256x128_o96_0_S32x128) (extractStridedSlice S32x128 ![96, 0] v14 slices_S256x128_o96_0_S32x128) x1 100 := by
  refine runs_eq _ _ _ _ _ x1 (fun k => st_k0_t4 Variants.none c none arg0 harg0 arg1 harg1 arg2 harg2 arg3 harg3 arg4 harg4 arg5 harg5 arg6 harg6 v1 v3 v5 v7 v14 w0 w1 w2 w3 w4 k0_pay20 k0_pay21 0#32 (harg1.unread x1) (k0_pay32, k0_pay33) k)
    rfl fun k => ?_
  refine (st_k0_t4_succ Variants.none c none arg0 harg0 arg1 harg1 arg2 harg2 arg3 harg3 arg4 harg4 arg5 harg5 arg6 harg6 v1 v3 v5 v7 v14 w0 w1 w2 w3 w4 k0_pay20 k0_pay21 0#32 (harg1.unread x1)
    (k0_pay32, k0_pay33) k).trans ?_
  refine Eq.trans ?_ (trip_words arg1 harg1 x1 _ _ _ _ _ (k0_off13 k) (k0_off14 k) (k0_off15 k) (k0_off16 k) (k0_off13_inb k)
    (k0_off14_inb k) (k0_off15_inb k) (k0_off16_inb k) k ⟨rfl, rfl⟩ ⟨rfl, rfl⟩ ⟨rfl, rfl⟩ ⟨rfl, rfl⟩ _)
  sl_kernel_rfl

/-- The fifth chunk. -/
theorem loop5 (v1 v3 v5 v7 v14 : FVec F S256x128 .f32) (w0 w1 w2 w3 w4 : FVec F S32x128 .f32) :
    st_k0_t5 Variants.none c none arg0 harg0 arg1 harg1 arg2 harg2 arg3 harg3 arg4 harg4 arg5 harg5 arg6 harg6 v1 v3 v5 v7 v14 w0 w1 w2 w3 w4 k0_pay20 k0_pay21 0#32 (harg1.unread x1) (k0_pay38, k0_pay39)
      (Scf.trips k0_t5_loop.lb k0_t5_loop.ub k0_t5_loop.st) =
      runs (extractStridedSlice S32x128 ![128, 0] v1 slices_S256x128_o128_0_S32x128) (extractStridedSlice S32x128 ![128, 0] v3 slices_S256x128_o128_0_S32x128) (extractStridedSlice S32x128 ![128, 0] v5 slices_S256x128_o128_0_S32x128)
        (extractStridedSlice S32x128 ![128, 0] v7 slices_S256x128_o128_0_S32x128) (extractStridedSlice S32x128 ![128, 0] v14 slices_S256x128_o128_0_S32x128) x1 100 := by
  refine runs_eq _ _ _ _ _ x1 (fun k => st_k0_t5 Variants.none c none arg0 harg0 arg1 harg1 arg2 harg2 arg3 harg3 arg4 harg4 arg5 harg5 arg6 harg6 v1 v3 v5 v7 v14 w0 w1 w2 w3 w4 k0_pay20 k0_pay21 0#32 (harg1.unread x1) (k0_pay38, k0_pay39) k)
    rfl fun k => ?_
  refine (st_k0_t5_succ Variants.none c none arg0 harg0 arg1 harg1 arg2 harg2 arg3 harg3 arg4 harg4 arg5 harg5 arg6 harg6 v1 v3 v5 v7 v14 w0 w1 w2 w3 w4 k0_pay20 k0_pay21 0#32 (harg1.unread x1)
    (k0_pay38, k0_pay39) k).trans ?_
  refine Eq.trans ?_ (trip_words arg1 harg1 x1 _ _ _ _ _ (k0_off17 k) (k0_off18 k) (k0_off19 k) (k0_off20 k) (k0_off17_inb k)
    (k0_off18_inb k) (k0_off19_inb k) (k0_off20_inb k) k ⟨rfl, rfl⟩ ⟨rfl, rfl⟩ ⟨rfl, rfl⟩ ⟨rfl, rfl⟩ _)
  sl_kernel_rfl

/-- The sixth chunk. -/
theorem loop6 (v1 v3 v5 v7 v14 : FVec F S256x128 .f32) (u : IVec S256x128 32)
    (u0 : FVec F S32x128 .f32) (t0 : IVec S32x128 32) (u1 : FVec F S32x128 .f32) (t1 : IVec S32x128 32) (u2 : FVec F S32x128 .f32) (t2 : IVec S32x128 32)
    (u3 : FVec F S32x128 .f32) (t3 : IVec S32x128 32) (u4 : FVec F S32x128 .f32) (t4 : IVec S32x128 32) (w0 w1 w2 w3 w4 : FVec F S32x128 .f32) :
    st_k0_t6 Variants.none c none arg0 harg0 arg1 harg1 arg2 harg2 arg3 harg3 arg4 harg4 arg5 harg5 arg6 harg6 v1 v3 v5 v7 v14 u u0 t0 u1 t1 u2 t2 u3 t3 u4 t4 w0 w1 w2 w3 w4 k0_pay49 k0_pay50 0#32 (harg1.unread x1) (k0_pay49, k0_pay50)
      (Scf.trips k0_t6_loop.lb k0_t6_loop.ub k0_t6_loop.st) =
      runs w0 w1 w2 w3 w4 x1 100 := by
  refine runs_eq _ _ _ _ _ x1 (fun k => st_k0_t6 Variants.none c none arg0 harg0 arg1 harg1 arg2 harg2 arg3 harg3 arg4 harg4 arg5 harg5 arg6 harg6 v1 v3 v5 v7 v14 u u0 t0 u1 t1 u2 t2 u3 t3 u4 t4 w0 w1 w2 w3 w4 k0_pay49 k0_pay50 0#32 (harg1.unread x1) (k0_pay49, k0_pay50) k)
    rfl fun k => ?_
  refine (st_k0_t6_succ Variants.none c none arg0 harg0 arg1 harg1 arg2 harg2 arg3 harg3 arg4 harg4 arg5 harg5 arg6 harg6 v1 v3 v5 v7 v14 u u0 t0 u1 t1 u2 t2 u3 t3 u4 t4 w0 w1 w2 w3 w4 k0_pay49 k0_pay50 0#32 (harg1.unread x1)
    (k0_pay49, k0_pay50) k).trans ?_
  refine Eq.trans ?_ (trip_words arg1 harg1 x1 _ _ _ _ _ (k0_off21 k) (k0_off22 k) (k0_off23 k) (k0_off24 k) (k0_off21_inb k)
    (k0_off22_inb k) (k0_off23_inb k) (k0_off24_inb k) k ⟨rfl, rfl⟩ ⟨rfl, rfl⟩ ⟨rfl, rfl⟩ ⟨rfl, rfl⟩ _)
  sl_kernel_rfl

/-- The seventh chunk. -/
theorem loop7 (v1 v3 v5 v7 v14 : FVec F S256x128 .f32) (u : IVec S256x128 32)
    (u0 : FVec F S32x128 .f32) (t0 : IVec S32x128 32) (u1 : FVec F S32x128 .f32) (t1 : IVec S32x128 32) (u2 : FVec F S32x128 .f32) (t2 : IVec S32x128 32)
    (u3 : FVec F S32x128 .f32) (t3 : IVec S32x128 32) (u4 : FVec F S32x128 .f32) (t4 : IVec S32x128 32) (w0 w1 w2 w3 w4 : FVec F S32x128 .f32) :
    st_k0_t7 Variants.none c none arg0 harg0 arg1 harg1 arg2 harg2 arg3 harg3 arg4 harg4 arg5 harg5 arg6 harg6 v1 v3 v5 v7 v14 u u0 t0 u1 t1 u2 t2 u3 t3 u4 t4 w0 w1 w2 w3 w4 k0_pay49 k0_pay50 0#32 (harg1.unread x1) (k0_pay55, k0_pay56)
      (Scf.trips k0_t7_loop.lb k0_t7_loop.ub k0_t7_loop.st) =
      runs (extractStridedSlice S32x128 ![192, 0] v1 slices_S256x128_o192_0_S32x128) (extractStridedSlice S32x128 ![192, 0] v3 slices_S256x128_o192_0_S32x128) (extractStridedSlice S32x128 ![192, 0] v5 slices_S256x128_o192_0_S32x128)
        (extractStridedSlice S32x128 ![192, 0] v7 slices_S256x128_o192_0_S32x128) (extractStridedSlice S32x128 ![192, 0] v14 slices_S256x128_o192_0_S32x128) x1 100 := by
  refine runs_eq _ _ _ _ _ x1 (fun k => st_k0_t7 Variants.none c none arg0 harg0 arg1 harg1 arg2 harg2 arg3 harg3 arg4 harg4 arg5 harg5 arg6 harg6 v1 v3 v5 v7 v14 u u0 t0 u1 t1 u2 t2 u3 t3 u4 t4 w0 w1 w2 w3 w4 k0_pay49 k0_pay50 0#32 (harg1.unread x1) (k0_pay55, k0_pay56) k)
    rfl fun k => ?_
  refine (st_k0_t7_succ Variants.none c none arg0 harg0 arg1 harg1 arg2 harg2 arg3 harg3 arg4 harg4 arg5 harg5 arg6 harg6 v1 v3 v5 v7 v14 u u0 t0 u1 t1 u2 t2 u3 t3 u4 t4 w0 w1 w2 w3 w4 k0_pay49 k0_pay50 0#32 (harg1.unread x1)
    (k0_pay55, k0_pay56) k).trans ?_
  refine Eq.trans ?_ (trip_words arg1 harg1 x1 _ _ _ _ _ (k0_off25 k) (k0_off26 k) (k0_off27 k) (k0_off28 k) (k0_off25_inb k)
    (k0_off26_inb k) (k0_off27_inb k) (k0_off28_inb k) k ⟨rfl, rfl⟩ ⟨rfl, rfl⟩ ⟨rfl, rfl⟩ ⟨rfl, rfl⟩ _)
  sl_kernel_rfl

/-- The eighth chunk. -/
theorem loop8 (v1 v3 v5 v7 v14 : FVec F S256x128 .f32) (u : IVec S256x128 32)
    (u0 : FVec F S32x128 .f32) (t0 : IVec S32x128 32) (u1 : FVec F S32x128 .f32) (t1 : IVec S32x128 32) (u2 : FVec F S32x128 .f32) (t2 : IVec S32x128 32)
    (u3 : FVec F S32x128 .f32) (t3 : IVec S32x128 32) (u4 : FVec F S32x128 .f32) (t4 : IVec S32x128 32) (w0 w1 w2 w3 w4 : FVec F S32x128 .f32) :
    st_k0_t8 Variants.none c none arg0 harg0 arg1 harg1 arg2 harg2 arg3 harg3 arg4 harg4 arg5 harg5 arg6 harg6 v1 v3 v5 v7 v14 u u0 t0 u1 t1 u2 t2 u3 t3 u4 t4 w0 w1 w2 w3 w4 k0_pay49 k0_pay50 0#32 (harg1.unread x1) (k0_pay61, k0_pay62)
      (Scf.trips k0_t8_loop.lb k0_t8_loop.ub k0_t8_loop.st) =
      runs (extractStridedSlice S32x128 ![224, 0] v1 slices_S256x128_o224_0_S32x128) (extractStridedSlice S32x128 ![224, 0] v3 slices_S256x128_o224_0_S32x128) (extractStridedSlice S32x128 ![224, 0] v5 slices_S256x128_o224_0_S32x128)
        (extractStridedSlice S32x128 ![224, 0] v7 slices_S256x128_o224_0_S32x128) (extractStridedSlice S32x128 ![224, 0] v14 slices_S256x128_o224_0_S32x128) x1 100 := by
  refine runs_eq _ _ _ _ _ x1 (fun k => st_k0_t8 Variants.none c none arg0 harg0 arg1 harg1 arg2 harg2 arg3 harg3 arg4 harg4 arg5 harg5 arg6 harg6 v1 v3 v5 v7 v14 u u0 t0 u1 t1 u2 t2 u3 t3 u4 t4 w0 w1 w2 w3 w4 k0_pay49 k0_pay50 0#32 (harg1.unread x1) (k0_pay61, k0_pay62) k)
    rfl fun k => ?_
  refine (st_k0_t8_succ Variants.none c none arg0 harg0 arg1 harg1 arg2 harg2 arg3 harg3 arg4 harg4 arg5 harg5 arg6 harg6 v1 v3 v5 v7 v14 u u0 t0 u1 t1 u2 t2 u3 t3 u4 t4 w0 w1 w2 w3 w4 k0_pay49 k0_pay50 0#32 (harg1.unread x1)
    (k0_pay61, k0_pay62) k).trans ?_
  refine Eq.trans ?_ (trip_words arg1 harg1 x1 _ _ _ _ _ (k0_off29 k) (k0_off30 k) (k0_off31 k) (k0_off32 k) (k0_off29_inb k)
    (k0_off30_inb k) (k0_off31_inb k) (k0_off32_inb k) k ⟨rfl, rfl⟩ ⟨rfl, rfl⟩ ⟨rfl, rfl⟩ ⟨rfl, rfl⟩ _)
  sl_kernel_rfl

/-- The planes of the boxes' corners. -/
def plane (q : Fin 4) (x : Vec F S4x256x128 .f32) : FVec F S256x128 .f32 := fun i => x (ix3 q (i 0) (i 1))

/-- The boxes' areas. -/
def area (x : Vec F S4x256x128 .f32) : FVec F S256x128 .f32 :=
  mulf (addf (subf (plane 2 x) (plane 0 x)) (broadcast S256x128 (Scalar.ofBits .f32 0x3F800000#32)))
    (addf (subf (plane 3 x) (plane 1 x)) (broadcast S256x128 (Scalar.ofBits .f32 0x3F800000#32)))

/-- Each slab of rows lies in the block. -/
theorem slab_fits : ∀ q : Fin 8, S256x128.Slices ![32 * q.val, 0] S32x128 := by decide

/-- 32 rows. -/
def slab {α : Type} (q : Fin 8) (x : S256x128.Idx → α) : S32x128.Idx → α := extractStridedSlice S32x128 ![32 * q.val, 0] x (slab_fits q)

/-- What the loop over chunk `q` leaves. -/
def chunk (a b c d e : FVec F S256x128 .f32) (G : Vec F S100x4 .f32) (q : Fin 8) : FVec F S32x128 .f32 × IVec S32x128 32 :=
  runs (slab q a) (slab q b) (slab q c) (slab q d) (slab q e) G 100

/-- The greatest overlaps, -1 past the last box. -/
def maxOf (a b c d e : FVec F S256x128 .f32) (G : Vec F S100x4 .f32) : FVec F S256x128 .f32 :=
  select (cmpi .slt k0_pay8 (broadcast S256x128 20100#32))
    (concatenate S256x128 0 (List.ofFn fun q : Fin 8 => (⟨S32x128, (chunk a b c d e G q).1⟩ : (s : Shape) × (s.Idx → F .f32)))
      concatenates_S32x128_S32x128_S32x128_S32x128_S32x128_S32x128_S32x128_S32x128_S256x128_d0)
    (broadcast S256x128 (Scalar.ofBits .f32 0xBF800000#32))

/-- The position and the box of the greatest overlap, packed. -/
def packOf (a b c d e : FVec F S256x128 .f32) (G : Vec F S100x4 .f32) : IVec S256x128 32 :=
  addi (muli k0_pay8 (broadcast S256x128 128#32))
    (concatenate S256x128 0 (List.ofFn fun q : Fin 8 => (⟨S32x128, (chunk a b c d e G q).2⟩ : (s : Shape) × (s.Idx → BitVec 32)))
      concatenates_S32x128_S32x128_S32x128_S32x128_S32x128_S32x128_S32x128_S32x128_S256x128_d0)

omit [FloatOps F] in
/-- A plane as the kernel loads it. -/
theorem load_plane (q : Fin 4) (inb) : (shapeCast S256x128 (View.readAt (Elt F) arg0.view (Rect.unit (s := S4x256x128) ![q.val, 0, 0] S1x256x128.size inb).toLoadRect
    (harg0.unread x0)) shapeCasts_S1x256x128_S256x128 : FVec F S256x128 .f32) = plane q x0 := by
  funext i
  refine (shapeCast_dropUnit_apply _ _ _ i).trans ((harg0.readAt_unread x0 _ _).trans (congrArg x0 (funext fun a => ?_)))
  fin_cases a <;> refine Fin.ext ?_
  · exact Nat.add_zero _
  · exact (Nat.zero_add _).trans (Nat.one_mul _)
  · exact (Nat.zero_add _).trans (Nat.one_mul _)

omit [FloatOps F] in
/-- The first corners' first coordinates. -/
theorem word_r : kernelRun0_A.sl.r c arg0 harg0 x0 = plane 0 x0 := load_plane arg0 harg0 x0 0 _
omit [FloatOps F] in
/-- The first corners' second coordinates. -/
theorem word_r_1 : kernelRun0_A.sl.r_1 c arg0 harg0 x0 = plane 1 x0 := load_plane arg0 harg0 x0 1 _
omit [FloatOps F] in
/-- The second corners' first coordinates. -/
theorem word_r_2 : kernelRun0_A.sl.r_2 c arg0 harg0 x0 = plane 2 x0 := load_plane arg0 harg0 x0 2 _
omit [FloatOps F] in
/-- The second corners' second coordinates. -/
theorem word_r_3 : kernelRun0_A.sl.r_3 c arg0 harg0 x0 = plane 3 x0 := load_plane arg0 harg0 x0 3 _
/-- The areas of the boxes. -/
theorem word_r_4 : kernelRun0_A.sl.r_4 c arg0 harg0 x0 = area x0 := by
  unfold area
  rw [← word_r c arg0 harg0 x0, ← word_r_1 c arg0 harg0 x0, ← word_r_2 c arg0 harg0 x0, ← word_r_3 c arg0 harg0 x0]
  sl_kernel_rfl

/-- The kernel's array of greatest overlaps. -/
theorem overlaps_m : kernelRun0_A.sl.r_25 c arg0 harg0 arg1 harg1 arg2 harg2 arg3 harg3 arg4 harg4 arg5 harg5 arg6 harg6 x0 x1 = maxOf (plane 0 x0) (plane 1 x0) (plane 2 x0) (plane 3 x0) (area x0) x1 := by
  rw [← word_r c arg0 harg0 x0, ← word_r_1 c arg0 harg0 x0, ← word_r_2 c arg0 harg0 x0, ← word_r_3 c arg0 harg0 x0, ← word_r_4 c arg0 harg0 x0]
  unfold kernelRun0_A.sl.r_25 kernelRun0_A.sl.r_5 kernelRun0_A.sl.r_12 kernelRun0_A.sl.r_14 kernelRun0_A.sl.r_16 kernelRun0_A.sl.r_18
  rw [loop1, loop2, loop3, loop4, loop5, loop6, loop7, loop8]
  sl_kernel_rfl

/-- The kernel's array of packed positions. -/
theorem overlaps_p : kernelRun0_A.sl.r_26 c arg0 harg0 arg1 harg1 arg2 harg2 arg3 harg3 arg4 harg4 arg5 harg5 arg6 harg6 x0 x1 = packOf (plane 0 x0) (plane 1 x0) (plane 2 x0) (plane 3 x0) (area x0) x1 := by
  rw [← word_r c arg0 harg0 x0, ← word_r_1 c arg0 harg0 x0, ← word_r_2 c arg0 harg0 x0, ← word_r_3 c arg0 harg0 x0, ← word_r_4 c arg0 harg0 x0]
  unfold kernelRun0_A.sl.r_26 kernelRun0_A.sl.r_6 kernelRun0_A.sl.r_13 kernelRun0_A.sl.r_15 kernelRun0_A.sl.r_17 kernelRun0_A.sl.r_19
  rw [loop1, loop2, loop3, loop4, loop5, loop6, loop7, loop8]
  sl_kernel_rfl

end Cert.Select
-- ==== Proof.Overlap.lean ====
/- The overlap of two boxes as an extended real, the box of the greatest overlap, and the running maximum that finds it. -/
module

public import Idealize.ShloMosaic.Lib.IdealHost
public import Idealize.ShloMosaic.PureOps.Ideal.Laws
public import Mathlib.Tactic.Linarith
public import Mathlib.Tactic.Positivity

@[expose] public section

noncomputable section

namespace Cert.Select

open Idealize.ShloMosaic

/-- The overlap of the box `a` with the box `g`: the area they share over the area they cover. -/
def iou1 (a g : Fin 4 → EReal) : EReal :=
  Ideal.div (max (min (a 2) (g 2) - max (a 0) (g 0) + 1) 0 * max (min (a 3) (g 3) - max (a 1) (g 1) + 1) 0)
    ((a 2 - a 0 + 1) * (a 3 - a 1 + 1) + (g 2 - g 0 + 1) * (g 3 - g 1 + 1) -
      max (min (a 2) (g 2) - max (a 0) (g 0) + 1) 0 * max (min (a 3) (g 3) - max (a 1) (g 1) + 1) 0)

/-- Finite corners, the first at most the second. -/
def IsBox (a : Fin 4 → EReal) : Prop := ∃ r : Fin 4 → ℝ, (∀ q, a q = (r q : EReal)) ∧ r 0 ≤ r 2 ∧ r 1 ≤ r 3

/-- The greater of two reals, as extended reals. -/
theorem coe_max' (x y : ℝ) : max (x : EReal) (y : EReal) = ((max x y : ℝ) : EReal) :=
  (EReal.coe_strictMono.monotone.map_max).symm

/-- The lesser of two reals, as extended reals. -/
theorem coe_min' (x y : ℝ) : min (x : EReal) (y : EReal) = ((min x y : ℝ) : EReal) :=
  (EReal.coe_strictMono.monotone.map_min).symm

/-- The width (or height) two intervals share is at most that of the first. -/
theorem shared_le (a b g h : ℝ) (hab : a ≤ b) : max (min b h - max a g + 1) 0 ≤ b - a + 1 := by
  refine max_le ?_ (by linarith)
  have h1 := min_le_left b h
  have h2 := le_max_left a g
  linarith

/-- Overlaps of boxes are not negative. -/
theorem iou1_nonneg {a g : Fin 4 → EReal} (ha : IsBox a) (hg : IsBox g) : 0 ≤ iou1 a g := by
  obtain ⟨x, hx, hx0, hx1⟩ := ha
  obtain ⟨y, hy, hy0, hy1⟩ := hg
  have h1 : (1 : EReal) = ((1 : ℝ) : EReal) := EReal.coe_one.symm
  have h0 : (0 : EReal) = ((0 : ℝ) : EReal) := EReal.coe_zero.symm
  have hw := shared_le (x 0) (x 2) (y 0) (y 2) hx0
  have hh := shared_le (x 1) (x 3) (y 1) (y 3) hx1
  have hw0 : 0 ≤ max (min (x 2) (y 2) - max (x 0) (y 0) + 1) 0 := le_max_right _ _
  have hh0 : 0 ≤ max (min (x 3) (y 3) - max (x 1) (y 1) + 1) 0 := le_max_right _ _
  unfold iou1
  simp only [hx, hy]
  rw [h1, h0]
  simp only [coe_max', coe_min', ← EReal.coe_sub, ← EReal.coe_add, ← EReal.coe_mul]
  generalize max (min (x 2) (y 2) - max (x 0) (y 0) + 1) 0 = w at *
  generalize max (min (x 3) (y 3) - max (x 1) (y 1) + 1) 0 = h at *
  have hI : w * h ≤ (x 2 - x 0 + 1) * (x 3 - x 1 + 1) := mul_le_mul hw hh hh0 (by linarith)
  have hG : 0 < (y 2 - y 0 + 1) * (y 3 - y 1 + 1) := mul_pos (by linarith) (by linarith)
  have hD : 0 < (x 2 - x 0 + 1) * (x 3 - x 1 + 1) + (y 2 - y 0 + 1) * (y 3 - y 1 + 1) - w * h := by linarith
  rw [Ideal.div_coe hD.ne', ← EReal.coe_mul]
  exact EReal.coe_le_coe_iff.mpr (mul_nonneg (mul_nonneg hw0 hh0) (one_div_nonneg.mpr hD.le))

/-- `a` is the first place of the greatest value. -/
def FirstMax {n : Nat} (f : Fin n → EReal) (a : Fin n) : Prop := (∀ j, f j ≤ f a) ∧ ∀ j, j < a → f j < f a

/-- The first greatest entry is one alone. -/
theorem FirstMax.unique {n : Nat} {f : Fin n → EReal} {a b : Fin n} (ha : FirstMax f a) (hb : FirstMax f b) : a = b := by
  rcases lt_trichotomy a b with h | h | h
  · exact absurd (ha.1 b) (not_le.mpr (hb.2 a h))
  · exact h
  · exact absurd (hb.1 a) (not_le.mpr (ha.2 b h))

/-- There is a first place of the greatest value. -/
theorem exists_firstMax {n : Nat} (f : Fin (n + 1) → EReal) : ∃ a, FirstMax f a := by
  induction n with
  | zero => exact ⟨0, fun j => by rw [show j = 0 from Fin.ext (by omega)], fun j hj => absurd hj (Nat.not_lt_zero _)⟩
  | succ n ih =>
    obtain ⟨a, h1, h2⟩ := ih (fun j => f j.castSucc)
    by_cases h : f a.castSucc < f (Fin.last (n + 1))
    · refine ⟨Fin.last _, fun j => ?_, fun j hj => ?_⟩
      · refine Fin.lastCases le_rfl (fun i => (h1 i).trans h.le) j
      · induction j using Fin.lastCases with
        | last => exact absurd hj (lt_irrefl _)
        | cast i => exact (h1 i).trans_lt h
    · refine ⟨a.castSucc, fun j => ?_, fun j hj => ?_⟩
      · refine Fin.lastCases (not_lt.mp h) (fun i => h1 i) j
      · induction j using Fin.lastCases with
        | last => exact absurd hj (not_lt.mpr (Fin.le_last _))
        | cast i => exact h2 i hj

/-- The first place of the greatest value. -/
def firstMax {n : Nat} (f : Fin (n + 1) → EReal) : Fin (n + 1) := (exists_firstMax f).choose

/-- The chosen first greatest entry is one. -/
theorem firstMax_spec {n : Nat} (f : Fin (n + 1) → EReal) : FirstMax f (firstMax f) := (exists_firstMax f).choose_spec

/-- The greatest value before place `k` and its first place, from -1 at place 0. -/
def scan (f : Nat → EReal) : Nat → EReal × Nat
  | 0 => (-1, 0)
  | k + 1 => if (scan f k).1 < f k then (f k, k) else scan f k

/-- Minus one is below nought. -/
theorem neg_one_lt : (-1 : EReal) < 0 := by
  rw [show (-1 : EReal) = ((-1 : ℝ) : EReal) by norm_num]
  exact EReal.coe_lt_coe_iff.mpr (by norm_num)

/-- Of values that are not negative, the running maximum is the greatest and its place the first. -/
theorem scan_spec (f : Nat → EReal) (hf : ∀ k, 0 ≤ f k) (n : Nat) :
    (scan f (n + 1)).2 < n + 1 ∧ (scan f (n + 1)).1 = f (scan f (n + 1)).2 ∧ (∀ j, j < n + 1 → f j ≤ (scan f (n + 1)).1) ∧
      ∀ j, j < (scan f (n + 1)).2 → f j < (scan f (n + 1)).1 := by
  induction n with
  | zero =>
    have e : scan f 1 = (f 0, 0) := if_pos (lt_of_lt_of_le neg_one_lt (hf 0))
    rw [e]
    refine ⟨Nat.one_pos, rfl, fun j hj => ?_, fun j hj => absurd hj (Nat.not_lt_zero _)⟩
    rw [Nat.lt_one_iff.mp hj]
  | succ n ih =>
    obtain ⟨h1, h2, h3, h4⟩ := ih
    by_cases h : (scan f (n + 1)).1 < f (n + 1)
    · have e : scan f (n + 1 + 1) = (f (n + 1), n + 1) := if_pos h
      rw [e]
      refine ⟨Nat.lt_succ_self _, rfl, fun j hj => ?_, fun j hj => (h3 j hj).trans_lt h⟩
      rcases Nat.lt_succ_iff_lt_or_eq.mp hj with hj | rfl
      · exact (h3 j hj).trans h.le
      · exact le_rfl
    · have e : scan f (n + 1 + 1) = scan f (n + 1) := if_neg h
      rw [e]
      refine ⟨h1.trans (Nat.lt_succ_self _), h2, fun j hj => ?_, h4⟩
      rcases Nat.lt_succ_iff_lt_or_eq.mp hj with hj | rfl
      · exact h3 j hj
      · exact not_lt.mp h

/-- The running maximum over all places is at the first place of the greatest value. -/
theorem scan_firstMax {n : Nat} (f : Fin (n + 1) → EReal) (g : Nat → EReal) (hg : ∀ k : Fin (n + 1), g k.val = f k) (hf : ∀ k, 0 ≤ g k) :
    scan g (n + 1) = (f (firstMax f), (firstMax f).val) := by
  obtain ⟨h1, h2, h3, h4⟩ := scan_spec g hf n
  have hv : (scan g (n + 1)).1 = f ⟨_, h1⟩ := h2.trans (hg ⟨_, h1⟩)
  have hm : FirstMax f ⟨_, h1⟩ := ⟨fun j => by rw [← hv, ← hg j]; exact h3 j j.isLt, fun j hj => by rw [← hv, ← hg j]; exact h4 j hj⟩
  rw [← hm.unique (firstMax_spec f)]
  exact Prod.ext hv rfl

end Cert.Select
-- ==== Proof.Entries.lean ====
/- The kernel's keys: at every box its greatest overlap and the packed pair of its position and the box it overlaps most. -/
module

public import proofs.«01_k».proof.Proof.Overlaps
public import proofs.«01_k».proof.Proof.Overlap
public import proofs.«01_k».proof.Proof.StageCols
public import Idealize.ShloMosaic.PureOps.IdealRules

@[expose] public section

noncomputable section

namespace Cert.Select

open Cert.KernelIdeal Cert.KernelIdeal.Gen Idealize.ShloMosaic Idealize.ShloMosaic.ValueIdx

/-- The overlaps of the box `a` with the boxes of `G`. -/
def ovs (a : Fin 4 → EReal) (G : Vec Ideal S100x4 .f32) (k : Nat) : EReal :=
  if h : k < 100 then iou1 a (fun q => G (ix2 ⟨k, h⟩ q)) else 0

/-- The word of one. -/
theorem one_word : (Scalar.ofBits .f32 0x3F800000#32 : Ideal .f32) = (1 : EReal) := Ideal.ofBits_one_f32
/-- The word of nought. -/
theorem zero_word : (Scalar.ofBits .f32 0x00000000#32 : Ideal .f32) = (0 : EReal) := Ideal.ofBits_zero_f32
/-- The word of minus one. -/
theorem neg_one_word : (Scalar.ofBits .f32 0xBF800000#32 : Ideal .f32) = (-1 : EReal) := IdealRules.sign_bit.ideal_negOnePat .f32

/-- The overlap a trip computes. -/
theorem iou_at {s : Shape} (a b c d e : FVec Ideal s .f32) (g h i j : Ideal .f32) (x : s.Idx)
    (he : e x = ((c x : EReal) - a x + 1) * ((d x : EReal) - b x + 1)) (v w : Fin 4 → EReal)
    (hv : v = ![a x, b x, c x, d x]) (hw : w = ![g, h, i, j]) : iou a b c d e g h i j x = iou1 v w := by
  subst hv hw
  show Ideal.div (max (min (c x : EReal) i - max (a x : EReal) g + (Scalar.ofBits .f32 0x3F800000#32 : Ideal .f32)) (Scalar.ofBits .f32 0x00000000#32 : Ideal .f32) *
      max (min (d x : EReal) j - max (b x : EReal) h + (Scalar.ofBits .f32 0x3F800000#32 : Ideal .f32)) (Scalar.ofBits .f32 0x00000000#32 : Ideal .f32))
      ((e x : EReal) + ((i : EReal) - g + (Scalar.ofBits .f32 0x3F800000#32 : Ideal .f32)) * ((j : EReal) - h + (Scalar.ofBits .f32 0x3F800000#32 : Ideal .f32)) -
      max (min (c x : EReal) i - max (a x : EReal) g + (Scalar.ofBits .f32 0x3F800000#32 : Ideal .f32)) (Scalar.ofBits .f32 0x00000000#32 : Ideal .f32) *
      max (min (d x : EReal) j - max (b x : EReal) h + (Scalar.ofBits .f32 0x3F800000#32 : Ideal .f32)) (Scalar.ofBits .f32 0x00000000#32 : Ideal .f32)) = _
  rw [one_word, zero_word, he]
  rfl

/-- An element of a loop's state is the running maximum of its box's overlaps. -/
theorem runs_at {s : Shape} (a b c d e : FVec Ideal s .f32) (G : Vec Ideal S100x4 .f32) (x : s.Idx)
    (he : e x = ((c x : EReal) - a x + 1) * ((d x : EReal) - b x + 1)) (k : Nat) (hk : k ≤ 100) :
    (runs a b c d e G k).1 x = (scan (ovs ![a x, b x, c x, d x] G) k).1 ∧
      (runs a b c d e G k).2 x = BitVec.ofNat 32 (scan (ovs ![a x, b x, c x, d x] G) k).2 := by
  induction k with
  | zero => exact ⟨neg_one_word, rfl⟩
  | succ k ih =>
    obtain ⟨h1, h2⟩ := ih (by omega)
    have hk' : k < 100 := hk
    have hi := iou_at a b c d e (G (ix2 ⟨k, hk'⟩ 0)) (G (ix2 ⟨k, hk'⟩ 1)) (G (ix2 ⟨k, hk'⟩ 2)) (G (ix2 ⟨k, hk'⟩ 3)) x he
      ![a x, b x, c x, d x] (fun q => G (ix2 ⟨k, hk'⟩ q)) rfl (funext fun q => by fin_cases q <;> rfl)
    have ho : ovs ![a x, b x, c x, d x] G k = iou1 ![a x, b x, c x, d x] (fun q => G (ix2 ⟨k, hk'⟩ q)) := dif_pos hk'
    rw [runs, dif_pos hk', scan, ho]
    unfold trip
    have hc : cmpf .ogt (iou a b c d e (G (ix2 ⟨k, hk'⟩ 0)) (G (ix2 ⟨k, hk'⟩ 1)) (G (ix2 ⟨k, hk'⟩ 2)) (G (ix2 ⟨k, hk'⟩ 3))) (runs a b c d e G k).1 x =
        BitVec.ofBool (decide ((scan (ovs ![a x, b x, c x, d x] G) k).1 < iou1 ![a x, b x, c x, d x] (fun q => G (ix2 ⟨k, hk'⟩ q)))) := by
      rw [← h1, ← hi]
      rfl
    dsimp only
    rw [WordCmp.select_at, WordCmp.select_at, hc, select_ofBool, select_ofBool, hi, h1, h2]
    by_cases h : (scan (ovs ![a x, b x, c x, d x] G) k).1 < iou1 ![a x, b x, c x, d x] (fun q => G (ix2 ⟨k, hk'⟩ q))
    · rw [if_pos h, if_pos (decide_eq_true h), if_pos (decide_eq_true h)]
      exact ⟨rfl, rfl⟩
    · rw [if_neg h, if_neg (by simpa using h), if_neg (by simpa using h)]
      exact ⟨rfl, rfl⟩

/-- The word of a row and a lane. -/
theorem place_at (i : Fin 256) (c : Fin 128) : k0_pay8 (ix2 i c) = BitVec.ofNat 32 (128 * i.val + c.val) := by
  show BitVec.ofNat 32 (0 * 256 + i.val) * 128#32 + BitVec.ofNat 32 (0 * 128 + c.val) = _
  rw [Nat.zero_add, Nat.zero_add, show (128#32 : BitVec 32) = BitVec.ofNat 32 128 from rfl, ← BitVec.ofNat_mul,
    ← BitVec.ofNat_add, Nat.mul_comm]

/-- The eight chunks one below the other, read at a row and a lane. -/
theorem stacked_at {α : Type} (f : Fin 8 → S32x128.Idx → α) (h) (i : Fin 256) (c : Fin 128) :
    concatenate S256x128 0 (List.ofFn fun q : Fin 8 => (⟨S32x128, f q⟩ : (s : Shape) × (s.Idx → α))) h (ix2 i c) =
      f ⟨i.val / 32, by omega⟩ (ix2 ⟨i.val % 32, by omega⟩ c) := by
  refine concatenate_ofFn_apply (t := S256x128) (s₁ := S32x128) 0 f h rfl 32 rfl (ix2 i c) ⟨i.val / 32, by omega⟩ rfl _ rfl fun b hb => ?_
  fin_cases b
  · exact absurd rfl hb
  · rfl

/-- A chunk's rows are the array's. -/
theorem slab_at {α : Type} (x : S256x128.Idx → α) (i : Fin 256) (c : Fin 128) :
    slab ⟨i.val / 32, by omega⟩ x (ix2 ⟨i.val % 32, by omega⟩ c) = x (ix2 i c) := by
  refine congrArg x (funext fun a => ?_)
  fin_cases a <;> refine Fin.ext ?_
  · exact Nat.div_add_mod i.val 32
  · exact Nat.zero_add _

/-- The box at a row and a lane. -/
def boxAt (x0 : Vec Ideal S4x256x128 .f32) (i : Fin 256) (c : Fin 128) : Fin 4 → EReal := fun q => x0 (ix3 q i c)

/-- The running maximum of the overlaps of the box at a row and a lane. -/
def found (x0 : Vec Ideal S4x256x128 .f32) (x1 : Vec Ideal S100x4 .f32) (i : Fin 256) (c : Fin 128) : EReal × Nat := scan (ovs (boxAt x0 i c) x1) 100

/-- What a place of a chunk holds after the overlaps. -/
theorem chunk_at (x0 : Vec Ideal S4x256x128 .f32) (x1 : Vec Ideal S100x4 .f32) (i : Fin 256) (c : Fin 128) :
    (chunk (plane 0 x0) (plane 1 x0) (plane 2 x0) (plane 3 x0) (area x0) x1 ⟨i.val / 32, by omega⟩).1 (ix2 ⟨i.val % 32, by omega⟩ c) = (found x0 x1 i c).1 ∧
      (chunk (plane 0 x0) (plane 1 x0) (plane 2 x0) (plane 3 x0) (area x0) x1 ⟨i.val / 32, by omega⟩).2 (ix2 ⟨i.val % 32, by omega⟩ c) =
        BitVec.ofNat 32 (found x0 x1 i c).2 := by
  have h := runs_at (slab ⟨i.val / 32, by omega⟩ (plane 0 x0)) (slab ⟨i.val / 32, by omega⟩ (plane 1 x0)) (slab ⟨i.val / 32, by omega⟩ (plane 2 x0))
    (slab ⟨i.val / 32, by omega⟩ (plane 3 x0)) (slab ⟨i.val / 32, by omega⟩ (area x0)) x1 (ix2 ⟨i.val % 32, by omega⟩ c) (by
      simp only [slab_at]
      show ((plane 2 x0 (ix2 i c) : EReal) - plane 0 x0 (ix2 i c) + (Scalar.ofBits .f32 0x3F800000#32 : Ideal .f32)) *
        ((plane 3 x0 (ix2 i c) : EReal) - plane 1 x0 (ix2 i c) + (Scalar.ofBits .f32 0x3F800000#32 : Ideal .f32)) = _
      rw [one_word]) 100 le_rfl
  simp only [slab_at] at h
  rw [show (![plane 0 x0 (ix2 i c), plane 1 x0 (ix2 i c), plane 2 x0 (ix2 i c), plane 3 x0 (ix2 i c)] : Fin 4 → EReal) = boxAt x0 i c from
    funext fun q => by fin_cases q <;> rfl] at h
  exact h

/-- The array of greatest overlaps. -/
theorem maxOf_at (x0 : Vec Ideal S4x256x128 .f32) (x1 : Vec Ideal S100x4 .f32) (i : Fin 256) (c : Fin 128) :
    maxOf (plane 0 x0) (plane 1 x0) (plane 2 x0) (plane 3 x0) (area x0) x1 (ix2 i c) =
      if 128 * i.val + c.val < 20100 then (found x0 x1 i c).1 else (-1 : EReal) := by
  refine (congrArg (fun v : EReal => Scalar.select (IntOp.cmpi .slt (k0_pay8 (ix2 i c)) 20100#32) v (Scalar.ofBits .f32 0xBF800000#32 : Ideal .f32))
    ((stacked_at (fun q => (chunk (plane 0 x0) (plane 1 x0) (plane 2 x0) (plane 3 x0) (area x0) x1 q).1)
      concatenates_S32x128_S32x128_S32x128_S32x128_S32x128_S32x128_S32x128_S32x128_S256x128_d0 i c).trans (chunk_at x0 x1 i c).1)).trans ?_
  beta_reduce
  rw [place_at, show (20100#32 : BitVec 32) = BitVec.ofNat 32 20100 from rfl, WordCmp.cmpi_slt_ofNat (by omega) (by norm_num), select_ofBool, neg_one_word]
  simp only [decide_eq_true_eq]

/-- The array of packed positions. -/
theorem packOf_at (x0 : Vec Ideal S4x256x128 .f32) (x1 : Vec Ideal S100x4 .f32) (i : Fin 256) (c : Fin 128) :
    packOf (plane 0 x0) (plane 1 x0) (plane 2 x0) (plane 3 x0) (area x0) x1 (ix2 i c) =
      BitVec.ofNat 32 ((128 * i.val + c.val) * 128 + (found x0 x1 i c).2) := by
  refine (congrArg (fun v : BitVec 32 => IntOp.addi (IntOp.muli (k0_pay8 (ix2 i c)) 128#32) v)
    ((stacked_at (fun q => (chunk (plane 0 x0) (plane 1 x0) (plane 2 x0) (plane 3 x0) (area x0) x1 q).2)
      concatenates_S32x128_S32x128_S32x128_S32x128_S32x128_S32x128_S32x128_S32x128_S256x128_d0 i c).trans (chunk_at x0 x1 i c).2)).trans ?_
  beta_reduce
  rw [place_at]
  show BitVec.ofNat 32 _ * BitVec.ofNat 32 128 + BitVec.ofNat 32 _ = _
  rw [← BitVec.ofNat_mul, ← BitVec.ofNat_add]

end Cert.Select
-- ==== Proof.RefOverlaps.lean ====
/- The reference's table of overlaps, read at a box and a ground-truth box. -/
module

public import proofs.«01_k».proof.Proof.Gen.ReferenceIdeal.Read
public import proofs.«01_k».proof.Proof.Overlap
public import Idealize.ShloMosaic.Lib.IdealHost
public import Idealize.ShloMosaic.Lib.Pipeline.Value

@[expose] public section

noncomputable section

namespace Cert.RefRead

open Cert.ReferenceIdeal Cert.ReferenceIdeal.Gen Cert.ReferenceIdeal.Read Cert.Select Idealize.ShloMosaic Idealize.ShloMosaic.ValueIdx

/-- A column of a matrix of four columns, read at a row. -/
theorem column_at {α : Type} {n : Nat} (q : Fin 4) (x : (⟨2, ![n, 4]⟩ : Shape).Idx → α) (h) (h') (i : (⟨1, ![n]⟩ : Shape).Idx) :
    shapeCast (⟨1, ![n]⟩ : Shape) (extractStridedSlice (⟨2, ![n, 1]⟩ : Shape) ![0, q.val] x h) h' i = x (ix2 (i 0) q) := by
  refine (shapeCast_apply _ h' i (ix2 (i 0) 0) ?_).trans ?_
  · rw [Shape.rowMajor_val_two, Shape.rowMajor_val_one]
    show (i 0).val * 1 + 0 = (i 0).val
    omega
  · refine extractStridedSlice_apply _ _ h _ _ fun a => ?_
    fin_cases a
    · exact (Nat.zero_add _).symm
    · rfl

variable (x0 : (⟨S1x20000x4, .f32⟩ : BufTy).Contents (Elt Ideal)) (x1 : (⟨S1x100x4, .f32⟩ : BufTy).Contents (Elt Ideal))

/-- A coordinate of a box, as a column. -/
theorem c6 (i) : val_main_v6 x0 x1 i = val_main_v2 x0 x1 (ix2 (i 0) 2) := column_at 2 (val_main_v2 x0 x1) _ _ i
/-- A coordinate of a box, as a column. -/
theorem c8 (i) : val_main_v8 x0 x1 i = val_main_v2 x0 x1 (ix2 (i 0) 0) := column_at 0 (val_main_v2 x0 x1) _ _ i
/-- A coordinate of a box, as a column. -/
theorem c13 (i) : val_main_v13 x0 x1 i = val_main_v2 x0 x1 (ix2 (i 0) 3) := column_at 3 (val_main_v2 x0 x1) _ _ i
/-- A coordinate of a box, as a column. -/
theorem c15 (i) : val_main_v15 x0 x1 i = val_main_v2 x0 x1 (ix2 (i 0) 1) := column_at 1 (val_main_v2 x0 x1) _ _ i
/-- A coordinate of a ground-truth box, as a column. -/
theorem c21 (i) : val_main_v21 x1 i = val_main_v3 x1 (ix2 (i 0) 2) := column_at 2 (val_main_v3 x1) _ _ i
/-- A coordinate of a ground-truth box, as a column. -/
theorem c23 (i) : val_main_v23 x1 i = val_main_v3 x1 (ix2 (i 0) 0) := column_at 0 (val_main_v3 x1) _ _ i
/-- A coordinate of a ground-truth box, as a column. -/
theorem c28 (i) : val_main_v28 x1 i = val_main_v3 x1 (ix2 (i 0) 3) := column_at 3 (val_main_v3 x1) _ _ i
/-- A coordinate of a ground-truth box, as a column. -/
theorem c30 (i) : val_main_v30 x1 i = val_main_v3 x1 (ix2 (i 0) 1) := column_at 1 (val_main_v3 x1) _ _ i
/-- A coordinate of a box, as a column. -/
theorem c36 (i) : val_main_v36 x0 x1 i = val_main_v2 x0 x1 (ix2 (i 0) 0) := column_at 0 (val_main_v2 x0 x1) _ _ i
/-- A coordinate of a ground-truth box, as a column. -/
theorem c39 (i) : val_main_v39 x1 i = val_main_v3 x1 (ix2 (i 0) 0) := column_at 0 (val_main_v3 x1) _ _ i
/-- A coordinate of a box, as a column. -/
theorem c45 (i) : val_main_v45 x0 x1 i = val_main_v2 x0 x1 (ix2 (i 0) 1) := column_at 1 (val_main_v2 x0 x1) _ _ i
/-- A coordinate of a ground-truth box, as a column. -/
theorem c48 (i) : val_main_v48 x1 i = val_main_v3 x1 (ix2 (i 0) 1) := column_at 1 (val_main_v3 x1) _ _ i
/-- A coordinate of a box, as a column. -/
theorem c54 (i) : val_main_v54 x0 x1 i = val_main_v2 x0 x1 (ix2 (i 0) 2) := column_at 2 (val_main_v2 x0 x1) _ _ i
/-- A coordinate of a ground-truth box, as a column. -/
theorem c57 (i) : val_main_v57 x1 i = val_main_v3 x1 (ix2 (i 0) 2) := column_at 2 (val_main_v3 x1) _ _ i
/-- A coordinate of a box, as a column. -/
theorem c63 (i) : val_main_v63 x0 x1 i = val_main_v2 x0 x1 (ix2 (i 0) 3) := column_at 3 (val_main_v2 x0 x1) _ _ i
/-- A coordinate of a ground-truth box, as a column. -/
theorem c66 (i) : val_main_v66 x1 i = val_main_v3 x1 (ix2 (i 0) 3) := column_at 3 (val_main_v3 x1) _ _ i

/-- The box at a position of the reference's list of boxes. -/
def box (k : Fin 20100) : Fin 4 → EReal := fun q => val_main_v2 x0 x1 (ix2 k q)

/-- A ground-truth box. -/
def gt (j : Fin 100) : Fin 4 → EReal := fun q => val_main_v3 x1 (ix2 j q)

/-- The bits of one. -/
theorem one_f32 : (FloatOps.ofBits .f32 0x3F800000#32 : Ideal .f32) = (1 : EReal) := Ideal.ofBits_one_f32
/-- The bits of nought. -/
theorem zero_f32 : (FloatOps.ofBits .f32 0x00000000#32 : Ideal .f32) = (0 : EReal) := Ideal.ofBits_zero_f32

/-- The widths and heights that a box and a ground-truth box share. -/
theorem v75_at (k : Fin 20100) (j : Fin 100) :
    val_main_v75 x0 x1 (ix2 k j) = max (min (box x0 x1 k 2) (gt x1 j 2) - max (box x0 x1 k 0) (gt x1 j 0) + 1) 0 := by
  rw [val_main_v75_apply, val_main_v74_apply, val_main_cst_4_apply, val_main_v73_apply, val_main_v72_apply, val_main_cst_3_apply,
    val_main_v71_apply, val_main_v61_apply, val_main_v60_apply, val_main_v58_apply, c57, val_main_v59_apply, val_main_v55_apply, c54,
    val_main_v43_apply, val_main_v42_apply, val_main_v40_apply, c39, val_main_v41_apply, val_main_v37_apply, c36, one_f32, zero_f32]
  rfl

/-- The area that a box and a ground-truth box share. -/
theorem v80_at (k : Fin 20100) (j : Fin 100) :
    val_main_v80 x0 x1 (ix2 k j) = max (min (box x0 x1 k 3) (gt x1 j 3) - max (box x0 x1 k 1) (gt x1 j 1) + 1) 0 := by
  rw [val_main_v80_apply, val_main_v79_apply, val_main_cst_6_apply, val_main_v78_apply, val_main_v77_apply, val_main_cst_5_apply,
    val_main_v76_apply, val_main_v70_apply, val_main_v69_apply, val_main_v67_apply, c66, val_main_v68_apply, val_main_v64_apply, c63,
    val_main_v52_apply, val_main_v51_apply, val_main_v49_apply, c48, val_main_v50_apply, val_main_v46_apply, c45, one_f32, zero_f32]
  rfl

/-- The areas of the boxes. -/
theorem v84_at (k : Fin 20100) (j : Fin 100) :
    val_main_v84 x0 x1 (ix2 k j) = (box x0 x1 k 2 - box x0 x1 k 0 + 1) * (box x0 x1 k 3 - box x0 x1 k 1 + 1) := by
  rw [val_main_v84_apply, val_main_v82_apply, val_main_v19_apply, val_main_v18_apply, val_main_v17_apply, val_main_cst_0_apply,
    val_main_v16_apply, c13, c15, val_main_v11_apply, val_main_v10_apply, val_main_cst_apply, val_main_v9_apply, c6, c8, one_f32]
  rfl

/-- The overlap of a box and a ground-truth box. -/
theorem v85_at (k : Fin 20100) (j : Fin 100) :
    val_main_v85 x1 (ix2 k j) = (gt x1 j 2 - gt x1 j 0 + 1) * (gt x1 j 3 - gt x1 j 1 + 1) := by
  rw [val_main_v85_apply, val_main_v83_apply, val_main_v34_apply, val_main_v33_apply, val_main_v32_apply, val_main_cst_2_apply,
    val_main_v31_apply, c28, c30, val_main_v26_apply, val_main_v25_apply, val_main_cst_1_apply, val_main_v24_apply, c21, c23, one_f32]
  rfl

/-- The table of overlaps. -/
theorem v88_at (k : Fin 20100) (j : Fin 100) : val_main_v88 x0 x1 (ix2 k j) = iou1 (box x0 x1 k) (gt x1 j) := by
  rw [val_main_v88_apply, val_main_v87_apply, val_main_v86_apply, val_main_v81_apply, v75_at, v80_at, v84_at, v85_at]
  rfl

end Cert.RefRead
-- ==== Proof.SortOrder.lean ====
/- A stable sort by decreasing value, and the greatest keys of the selection network: the same boxes in the same order. -/
module

public import proofs.«01_k».proof.Proof.NetSort
public import proofs.«01_k».proof.Proof.StageCols
public import proofs.«01_k».proof.Proof.Overlap
public import Idealize.ShloMosaic.Lib.SortFacts

@[expose] public section

noncomputable section

namespace Cert.Select

open Idealize.ShloMosaic Idealize.ShloMosaic.SortNet Idealize.ShloMosaic.ValueIdx

/-- `a` is ahead of `b`: of a greater value, or of a value at least as great and at an earlier place. -/
def Ahead {n : Nat} (f : Fin n → EReal) (a b : Fin n) : Prop := f b < f a ∨ f b ≤ f a ∧ a < b

/-- The comparison of the sort: of a greater value. -/
def greater {n : Nat} (f : Fin n → EReal) (a b : Fin n) : Bool := decide (f b < f a)

/-- Inserting an earlier place keeps the order. -/
theorem ahead_insert {n : Nat} (f : Fin n → EReal) (a : Fin n) (l : List (Fin n)) (hl : l.Pairwise (Ahead f)) (ha : ∀ b ∈ l, a < b) :
    (insertBefore (greater f) a l).Pairwise (Ahead f) := by
  induction l with
  | nil => exact List.pairwise_singleton _ _
  | cons b l ih =>
    obtain ⟨hb, hl'⟩ := List.pairwise_cons.mp hl
    unfold insertBefore
    by_cases h : f a < f b
    · rw [if_pos (show greater f b a = true from decide_eq_true h)]
      refine List.pairwise_cons.mpr ⟨fun c hc => ?_, ih hl' fun c hc => ha c (List.mem_cons_of_mem _ hc)⟩
      rcases List.mem_cons.mp ((perm_insertBefore _ a l).mem_iff.mp hc) with rfl | hc
      · exact Or.inl h
      · exact hb c hc
    · rw [if_neg (show ¬ greater f b a = true from by simpa [greater] using h)]
      refine List.pairwise_cons.mpr ⟨fun c hc => ?_, hl⟩
      refine Or.inr ⟨?_, ha c hc⟩
      rcases List.mem_cons.mp hc with rfl | hc
      · exact not_lt.mp h
      · rcases hb c hc with h' | h'
        · exact h'.le.trans (not_lt.mp h)
        · exact h'.1.trans (not_lt.mp h)

/-- The sort puts every place after the places ahead of it. -/
theorem ahead_sort {n : Nat} (f : Fin n → EReal) (l : List (Fin n)) (hl : l.Pairwise (· < ·)) :
    (stableSort (greater f) l).Pairwise (Ahead f) := by
  induction l with
  | nil => exact List.Pairwise.nil
  | cons a l ih =>
    obtain ⟨ha, hl'⟩ := List.pairwise_cons.mp hl
    exact ahead_insert f a _ (ih hl') fun b hb => ha b ((perm_stableSort _ l).mem_iff.mp hb)

/-- The places in the order of the sort. -/
def order {n : Nat} (f : Fin n → EReal) : List (Fin n) := sortPositions n (greater f)

/-- The order puts each entry ahead of the later ones. -/
theorem order_ahead {n : Nat} (f : Fin n → EReal) : (order f).Pairwise (Ahead f) :=
  ahead_sort f _ (List.pairwise_lt_finRange n)

/-- A list of values as a sum of single ones. -/
theorem coe_ofFn {α : Type} {n : Nat} (f : Fin n → α) : ((List.ofFn f : List α) : Multiset α) = ∑ i, {f i} := by
  have h := Multiset.sum_map_singleton ((Finset.univ : Finset (Fin n)).val.map f)
  rw [Multiset.map_map] at h
  rw [← Fin.univ_val_map]
  exact h.symm

/-- The entries of the columns, read row by row. -/
theorem entries_rows {α : Type} (x : Cols α 128) (g : Fin 32768 → α) (hg : ∀ (i : Fin 256) (c : Fin 128), x c i = g ⟨128 * i.val + c.val, by omega⟩) :
    ((List.ofFn g : List α) : Multiset α) = entries x := by
  unfold entries
  simp only [coe_ofFn]
  show ∑ n, ({g n} : Multiset α) = ∑ c : Fin 128, ∑ i : Fin 256, ({x c i} : Multiset α)
  rw [Finset.sum_comm (f := fun (c : Fin 128) (i : Fin 256) => ({x c i} : Multiset α)), ← Fintype.sum_prod_type' (f := fun (i : Fin 256) (c : Fin 128) => ({x c i} : Multiset α)),
    ← Equiv.sum_comp (finProdFinEquiv (m := 256) (n := 128)) fun k => ({g k} : Multiset α)]
  refine Finset.sum_congr rfl fun p _ => ?_
  rw [hg p.1 p.2]
  refine congrArg (fun k => ({g k} : Multiset α)) (Fin.ext ?_)
  show p.2.val + 128 * p.1.val = 128 * p.1.val + p.2.val
  omega

/-- The word that packs a box's position with the box it overlaps most. -/
def packed (n a : Nat) : BitVec 32 := BitVec.ofNat 32 (n * 128 + a)

/-- A packed word, as a number. -/
theorem packed_toInt {n a : Nat} (hn : n < 32768) (ha : a < 128) : (packed n a).toInt = n * 128 + a := by
  unfold packed
  rw [WordCmp.toInt_ofNat_of_lt (by omega)]
  push_cast
  rfl

/-- The network's last column holds the keys of the first 256 boxes of the sort. -/
theorem lastColumn_order (x : Cols Key 128) (f : Fin 20100 → EReal) (a : Fin 20100 → Nat) (b : Nat → Key) (hf : ∀ n, 0 ≤ f n)
    (ha : ∀ n, a n < 128) (hb : ∀ n, ∃ p, b n = key (-1 : EReal) p)
    (hx : ∀ (i : Fin 256) (c : Fin 128), x c i = if h : 128 * i.val + c.val < 20100 then
      key (f ⟨_, h⟩) (packed (128 * i.val + c.val) (a ⟨_, h⟩)) else b (128 * i.val + c.val)) (i : Fin 256) :
    lastColumn x 0 i = key (f (sortedFrom (greater f) ⟨i.val, by omega⟩))
      (packed (sortedFrom (greater f) ⟨i.val, by omega⟩).val (a (sortedFrom (greater f) ⟨i.val, by omega⟩))) := by
  let K : Fin 20100 → Key := fun n => key (f n) (packed n.val (a n))
  let g : Fin (20100 + 12668) → Key := fun n => if h : n.val < 20100 then K ⟨_, h⟩ else b n.val
  have hlen : (order f).length = 20100 := length_sortPositions _ _
  have hT : ∀ p q, Ahead f p q → K q ≤ K p := by
    intro p q h
    rcases h with h | ⟨h, hpq⟩
    · exact ((key_lt _ _ _ _).mpr (Or.inl h)).le
    · rcases lt_or_eq_of_le h with h | h
      · exact ((key_lt _ _ _ _).mpr (Or.inl h)).le
      · refine ((key_lt _ _ _ _).mpr (Or.inr ⟨h, ?_⟩)).le
        rw [packed_toInt (by omega) (ha _), packed_toInt (by omega) (ha _)]
        have h1 := ha p
        have h2 : p.val < q.val := hpq
        omega
  have hl : ((((order f).take 256).map K ++ (((order f).drop 256).map K ++ List.ofFn fun j : Fin 12668 => b (20100 + j.val)))).Perm
      (List.ofFn g) := by
    rw [← List.append_assoc, ← List.map_append, List.take_append_drop, List.ofFn_add]
    refine List.Perm.append ?_ (List.Perm.of_eq ?_)
    · refine ((perm_sortPositions 20100 (greater f)).map K).trans (List.Perm.of_eq ?_)
      rw [← List.ofFn_eq_map]
      refine congrArg List.ofFn (funext fun n => ?_)
      show K n = if h : n.val < 20100 then K ⟨n.val, h⟩ else b n.val
      rw [dif_pos n.isLt]
    · refine congrArg List.ofFn (funext fun j => ?_)
      show b (20100 + j.val) = if h : 20100 + j.val < 20100 then K ⟨20100 + j.val, h⟩ else b (20100 + j.val)
      rw [dif_neg (Nat.not_lt.mpr (Nat.le_add_right _ _))]
  have hsplit : ((order f).take 256 ++ (order f).drop 256).Pairwise (Ahead f) := by
    rw [List.take_append_drop]
    exact order_ahead f
  obtain ⟨ht, -, htr⟩ := List.pairwise_append.mp hsplit
  have htop := eq_topList hl (List.pairwise_map.mpr (ht.imp fun h => hT _ _ h)) (by
    intro u hu v hv
    obtain ⟨p, hp, rfl⟩ := List.mem_map.mp hu
    rcases List.mem_append.mp hv with hv | hv
    · obtain ⟨q, hq, rfl⟩ := List.mem_map.mp hv
      exact hT _ _ (htr p hp q hq)
    · obtain ⟨j, rfl⟩ := (List.mem_ofFn' _ _).mp hv
      obtain ⟨w, hw⟩ := hb (20100 + j.val)
      dsimp only
      rw [hw]
      exact ((key_lt _ _ _ _).mpr (Or.inl (lt_of_lt_of_le neg_one_lt (hf p)))).le)
  have hn : (((order f).take 256).map K).length = 256 := by
    rw [List.length_map, List.length_take, hlen]
    rfl
  rw [hn] at htop
  have hcol := (lastColumn_eq x (List.ofFn g) (entries_rows x g hx)).trans htop.symm
  have hi := congrArg (fun l : List Key => l[i.val]?) hcol
  rw [List.getElem?_ofFn, dif_pos (show i.val < 2 ^ 8 from i.isLt), List.getElem?_map, List.getElem?_take, if_pos i.isLt,
    List.getElem?_eq_getElem (by omega : i.val < (order f).length)] at hi
  exact Option.some.inj hi

end Cert.Select
-- ==== Proof.RefPicks.lean ====
/- The reference's picks: the box each position overlaps most, the order of the sort, and the rows gathered by it. -/
module

public import proofs.«01_k».proof.Proof.RefOverlaps
public import proofs.«01_k».proof.Proof.SortOrder
public import Idealize.ShloMosaic.Lib.Routing.OpsOne

@[expose] public section

noncomputable section

namespace Cert.RefRead

open Cert.ReferenceIdeal Cert.ReferenceIdeal.Gen Cert.ReferenceIdeal.Read Cert.Select Idealize.ShloMosaic Idealize.ShloMosaic.ValueIdx

/-- The greatest of a row, from minus infinity. -/
theorem fold_max {n : Nat} (f : Fin (n + 1) → EReal) (a : Fin (n + 1)) (ha : ∀ j, f j ≤ f a) :
    (Finset.univ : Finset (Fin (n + 1))).fold (FloatOps.maximumf (F := Ideal) (φ := .f32)) (⊥ : EReal) f = f a := by
  show (Finset.univ : Finset (Fin (n + 1))).fold max (⊥ : EReal) f = f a
  exact le_antisymm ((Finset.fold_max_le _).mpr ⟨bot_le, fun j _ => ha j⟩) ((Finset.le_fold_max _).mpr (Or.inr ⟨a, Finset.mem_univ _, le_rfl⟩))

/-- The smaller of two words as integers. -/
theorem minsi_toInt (x y : BitVec 32) : (IntOp.minsi x y).toInt = min x.toInt y.toInt := by
  unfold IntOp.minsi
  simp only [BitVec.slt, decide_eq_true_eq]
  split_ifs with h <;> omega

/-- The least word of a row. -/
theorem fold_min {n : Nat} (g : Fin n → BitVec 32) (a : Fin n) (ha : ∀ j, (g a).toInt ≤ (g j).toInt) :
    (Finset.univ : Finset (Fin n)).fold (IntOp.minsi (w := 32)) 2147483647#32 g = g a := by
  refine BitVec.eq_of_toInt_eq ?_
  rw [← Finset.fold_hom (op' := min) (m := BitVec.toInt) minsi_toInt]
  refine le_antisymm ((Finset.fold_min_le _).mpr (Or.inr ⟨a, Finset.mem_univ _, le_rfl⟩)) ((Finset.le_fold_min _).mpr ⟨?_, fun j _ => ha j⟩)
  have := (g a).toInt_lt
  rw [show (2147483647#32 : BitVec 32).toInt = 2147483647 by decide]
  omega

/-- The least place at which a row has its greatest value, found by keeping the places of the greatest value and the row's length
    elsewhere, and taking the least. -/
theorem fold_first {n : Nat} (hn : n + 1 < 2 ^ 31) (f : Fin (n + 1) → EReal) (a : Fin (n + 1)) (ha : FirstMax f a) (g : Fin (n + 1) → BitVec 32)
    (hg : ∀ j, g j = if f j = f a then BitVec.ofNat 32 j.val else BitVec.ofNat 32 (n + 1)) :
    (Finset.univ : Finset (Fin (n + 1))).fold (IntOp.minsi (w := 32)) 2147483647#32 g = BitVec.ofNat 32 a.val := by
  have h := a.isLt
  have e : g a = BitVec.ofNat 32 a.val := by rw [hg, if_pos rfl]
  rw [← e]
  refine fold_min g a fun j => ?_
  have hj := j.isLt
  rw [e, hg, WordCmp.toInt_ofNat_of_lt (by omega)]
  split_ifs with hv
  · rw [WordCmp.toInt_ofNat_of_lt (by omega)]
    by_contra hlt
    exact absurd hv (ha.2 j (by rw [Fin.lt_def]; omega)).ne
  · rw [WordCmp.toInt_ofNat_of_lt (by omega)]
    omega

/-- The bits of negative infinity. -/
theorem bot_f32 : (FloatOps.ofBits .f32 0xFF800000#32 : Ideal .f32) = (⊥ : EReal) := by
  show Ideal.ofBits .f32 0xFF800000#32 = ⊥
  simp [Ideal.ofBits, Ideal.ieee]

variable (x0 : (⟨S1x20000x4, .f32⟩ : BufTy).Contents (Elt Ideal)) (x1 : (⟨S1x100x4, .f32⟩ : BufTy).Contents (Elt Ideal))

/-- The overlaps of a box with the ground-truth boxes. -/
def ov (k : Fin 20100) : Fin 100 → EReal := fun j => iou1 (box x0 x1 k) (gt x1 j)

/-- The ground-truth box a box overlaps most. -/
def arg (k : Fin 20100) : Fin 100 := firstMax (ov x0 x1 k)

/-- A box's greatest overlap. -/
def best (k : Fin 20100) : EReal := ov x0 x1 k (arg x0 x1 k)

/-- The overlaps reduce along the ground-truth boxes. -/
theorem reduces_ov : S20100x100.Reduces [1] S20100 := by decide

/-- An entry of the overlaps, from its box and its ground-truth box. -/
theorem lift_ov (k : Fin 20100) (j : Fin 100) : reduces_ov.lift (ix1 k) j = ix2 k j := by
  funext a
  fin_cases a <;> rfl

/-- A reduction of the rows, as a fold over a row. -/
theorem reduce_row {a b : Nat} {α : Type} (f : α → α → α) [Std.Commutative f] [Std.Associative f] (x : (⟨2, ![a, b]⟩ : Shape).Idx → α) (init : S_.Idx → α)
    (h : (⟨2, ![a, b]⟩ : Shape).ReducesTo [1] ⟨1, ![a]⟩) (hu : 0 < S_.numel) (hr : (⟨2, ![a, b]⟩ : Shape).Reduces [1] ⟨1, ![a]⟩)
    (hl : ∀ (k : Fin a) (j : Fin b), hr.lift (ix1 k) j = ix2 k j) (k : Fin a) :
    Host.reduce f x init h hu (ix1 k) = (Finset.univ : Finset (Fin b)).fold f (init (Shape.Idx.first hu)) (fun j => x (ix2 k j)) := by
  rw [Host.reduce_eq_fold_single _ _ _ _ hr]
  exact congrArg (fun g : Fin b → α => (Finset.univ : Finset (Fin b)).fold f (init (Shape.Idx.first hu)) g) (funext fun j => congrArg x (hl k j))

/-- No overlap of a box exceeds its best. -/
theorem best_greatest (k : Fin 20100) (j : Fin 100) : ov x0 x1 k j ≤ best x0 x1 k := (firstMax_spec (n := 99) (ov x0 x1 k)).1 j

/-- A box's best overlap. -/
theorem v96_at (k : Fin 20100) : val_main_v96 x0 x1 (ix1 k) = best x0 x1 k := by
  unfold val_main_v96
  rw [reduce_row _ _ _ _ _ reduces_ov lift_ov, val_main_cst_9_apply, bot_f32, show (fun j : Fin 100 => val_main_v88 x0 x1 (ix2 k j)) = ov x0 x1 k from funext fun j => v88_at x0 x1 k j]
  exact fold_max (n := 99) (ov x0 x1 k) (arg x0 x1 k) (best_greatest x0 x1 k)

/-- A box's best overlap, kept in its own column. -/
theorem v90_at (k : Fin 20100) : val_main_v90 x0 x1 (ix1 k) = best x0 x1 k := v96_at x0 x1 k

/-- A ground-truth box's number where its overlap is the best. -/
theorem v94_at (k : Fin 20100) (j : Fin 100) : val_main_v94 x0 x1 (ix2 k j) =
    if ov x0 x1 k j = ov x0 x1 k (arg x0 x1 k) then BitVec.ofNat 32 j.val else BitVec.ofNat 32 (99 + 1) := by
  have e : val_main_v90 x0 x1 (idx_main_v91 (idx_main_v92 (ix2 k j))) = best x0 x1 k :=
    (congrArg (val_main_v90 x0 x1) (funext fun a => by fin_cases a; rfl)).trans (v90_at x0 x1 k)
  rw [val_main_v94_apply, val_main_v93_apply, val_main_v92_apply, val_main_v91_apply, e, v88_at, val_main_v89_apply, val_main_call0_v1_apply]
  show Scalar.select (FloatOps.cmpf (F := Ideal) (φ := .f32) .oeq (ov x0 x1 k j) (ov x0 x1 k (arg x0 x1 k))) (BitVec.ofNat 32 j.val) (BitVec.ofNat 32 100) = _
  generalize ov x0 x1 k j = a
  generalize ov x0 x1 k (arg x0 x1 k) = b
  refine (select_ofBool (decide (a = b)) (BitVec.ofNat 32 j.val) (BitVec.ofNat 32 100)).trans ?_
  simp only [decide_eq_true_eq]

/-- The first ground-truth box with the best overlap. -/
theorem v95_at (k : Fin 20100) : val_main_v95 x0 x1 (ix1 k) = BitVec.ofNat 32 (arg x0 x1 k).val := by
  unfold val_main_v95
  rw [reduce_row _ _ _ _ _ reduces_ov lift_ov, val_main_c_8_apply]
  exact fold_first (n := 99) (by norm_num) (ov x0 x1 k) (arg x0 x1 k) (firstMax_spec (n := 99) (ov x0 x1 k)) _ (v94_at x0 x1 k)

/-- The comparison the sort prints is that of the greater value, of the negated keys. -/
theorem comparator_eq (l r : Ideal .f32 × BitVec 32) :
    comparator_f32_i32_d0 (F := Ideal) l r = BitVec.ofBool (decide ((l.1 : EReal) < r.1)) := by
  have canon : ∀ x : EReal, Scalar.select (BitVec.ofBool (decide (x ≠ x))) (FloatOps.ofBits .f32 0x7FC00000#32 : Ideal .f32)
      (Scalar.select (BitVec.ofBool (decide (x = (FloatOps.ofBits .f32 0x00000000#32 : Ideal .f32)))) (FloatOps.ofBits .f32 0x00000000#32 : Ideal .f32) x) = x := by
    intro x
    rw [select_ofBool, select_ofBool, if_neg (by simp)]
    split_ifs with h
    · exact (of_decide_eq_true h).symm
    · rfl
  refine Eq.trans (b := BitVec.ofBool (decide ((Scalar.select (BitVec.ofBool (decide ((l.1 : EReal) ≠ l.1))) (FloatOps.ofBits .f32 0x7FC00000#32 : Ideal .f32)
      (Scalar.select (BitVec.ofBool (decide ((l.1 : EReal) = (FloatOps.ofBits .f32 0x00000000#32 : Ideal .f32)))) (FloatOps.ofBits .f32 0x00000000#32 : Ideal .f32) l.1) : EReal) <
      Scalar.select (BitVec.ofBool (decide ((r.1 : EReal) ≠ r.1))) (FloatOps.ofBits .f32 0x7FC00000#32 : Ideal .f32)
      (Scalar.select (BitVec.ofBool (decide ((r.1 : EReal) = (FloatOps.ofBits .f32 0x00000000#32 : Ideal .f32)))) (FloatOps.ofBits .f32 0x00000000#32 : Ideal .f32) r.1)))) rfl ?_
  rw [canon, canon]

/-- The box at a place of the sort. -/
def place (i : Fin 20100) : Fin 20100 := sortedFrom (greater (best x0 x1)) i

/-- The places a sort of one axis carries, at one entry. -/
theorem sort2_at {n : Nat} {α β : Type} (cmp : α × β → α × β → BitVec 1) (x : (⟨1, ![n]⟩ : Shape).Idx → α) (y : (⟨1, ![n]⟩ : Shape).Idx → β) (i : Fin n)
    (B : Fin n → Fin n → Bool) (hB : ∀ k k', (cmp (x (ix1 k), y (ix1 k)) (x (ix1 k'), y (ix1 k')) == 1#1) = B k k') :
    (Host.sort2 ⟨1, ![n]⟩ 0 cmp x y).2 (ix1 i) = y (ix1 (sortedFrom B i)) := by
  have along : ∀ q : Fin n, (ix1 i : (⟨1, ![n]⟩ : Shape).Idx).along ⟨0, Nat.zero_lt_one⟩ q = ix1 q := fun q => funext fun a => by fin_cases a; rfl
  have e : B = fun k k' : Fin n => cmp (x ((ix1 i : (⟨1, ![n]⟩ : Shape).Idx).along ⟨0, Nat.zero_lt_one⟩ k), y ((ix1 i : (⟨1, ![n]⟩ : Shape).Idx).along ⟨0, Nat.zero_lt_one⟩ k))
      (x ((ix1 i : (⟨1, ![n]⟩ : Shape).Idx).along ⟨0, Nat.zero_lt_one⟩ k'), y ((ix1 i : (⟨1, ![n]⟩ : Shape).Idx).along ⟨0, Nat.zero_lt_one⟩ k')) == 1#1 :=
    funext fun k => funext fun k' => by rw [along, along, hB]
  unfold Host.sort2
  rw [dif_pos (show 0 < (⟨1, ![n]⟩ : Shape).rank from Nat.zero_lt_one), e]
  exact congrArg y (along _)

/-- A box's best overlap, negated for the sort. -/
theorem v97_at (q : Fin 20100) : val_main_v97 x0 x1 (ix1 q) = (-(best x0 x1 q) : EReal) := by
  rw [val_main_v97_apply, v96_at]
  rfl

/-- The sorted places. -/
theorem v98_at (i : Fin 20100) : val_main_v98 x0 x1 (ix1 i) = BitVec.ofNat 32 (place x0 x1 i).val := by
  unfold val_main_v98
  refine (sort2_at _ _ _ i (greater (best x0 x1)) fun k k' => ?_).trans (val_main_call1_v0_apply _)
  rw [comparator_eq, v97_at, v97_at]
  unfold greater
  rw [show decide ((-(best x0 x1 k) : EReal) < -(best x0 x1 k')) = decide (best x0 x1 k' < best x0 x1 k) from decide_eq_decide.mpr EReal.neg_lt_neg_iff]
  cases decide (best x0 x1 k' < best x0 x1 k) <;> rfl

/-- The box picked in a row. -/
def pick (i : Fin 256) : Fin 20100 := place x0 x1 ⟨i.val, by omega⟩

/-- The first of the sorted places. -/
theorem v99_at (i : Fin 256) : val_main_v99 x0 x1 (ix1 i) = BitVec.ofNat 32 (pick x0 x1 i).val := by
  rw [val_main_v99_apply]
  have hi : i.val < 20100 := by omega
  exact (congrArg (val_main_v98 x0 x1) (show idx_main_v99 (ix1 i) = ix1 ⟨i.val, hi⟩ from funext fun a => by fin_cases a; rfl)).trans (v98_at x0 x1 ⟨i.val, hi⟩)

/-- A word of a small number is not negative. -/
theorem keep (n : Nat) (hn : n < 2 ^ 31) (z : BitVec 32) : Scalar.select (IntOp.cmpi .slt (BitVec.ofNat 32 n) 0#32) z (BitVec.ofNat 32 n) = BitVec.ofNat 32 n := by
  rw [show (0#32 : BitVec 32) = BitVec.ofNat 32 0 from rfl, WordCmp.cmpi_slt_ofNat hn (by norm_num), select_ofBool, if_neg (by simp)]

/-- The places at which the best overlaps are gathered. -/
theorem v106_at (i : Fin 256) : val_main_v106 x0 x1 (ix2 i 0) = BitVec.ofNat 32 (pick x0 x1 i).val := by
  rw [val_main_v106_apply, show idx_main_v106 (ix2 i 0) = ix1 i from funext fun a => by fin_cases a; rfl, val_main_v105_apply, val_main_v102_apply, v99_at]
  exact keep _ (by omega) _

/-- The places at which the boxes are gathered. -/
theorem v118_at (i : Fin 256) : val_main_v118 x0 x1 (ix2 i 0) = BitVec.ofNat 32 (pick x0 x1 i).val := by
  rw [val_main_v118_apply, show idx_main_v118 (ix2 i 0) = ix1 i from funext fun a => by fin_cases a; rfl, val_main_v117_apply, val_main_v114_apply, v99_at]
  exact keep _ (by omega) _

/-- The places at which the assignments are gathered. -/
theorem v125_at (i : Fin 256) : val_main_v125 x0 x1 (ix2 i 0) = BitVec.ofNat 32 (pick x0 x1 i).val := by
  rw [val_main_v125_apply, show idx_main_v125 (ix2 i 0) = ix1 i from funext fun a => by fin_cases a; rfl, val_main_v124_apply, val_main_v121_apply, v99_at]
  exact keep _ (by omega) _

/-- The picked boxes' greatest overlaps. -/
theorem v107_at (i : Fin 256) : val_main_v107 x0 x1 (ix1 i) = best x0 x1 (pick x0 x1 i) := by
  unfold val_main_v107
  rw [Routing.gather_take1 gather_S20100_S256x1_S256_n_0_n_n_0_1_1 rfl rfl rfl rfl _ _ i (pick x0 x1 i) (v106_at x0 x1 i) (by norm_num), v96_at]

/-- Result 0: the picked boxes. -/
theorem v119_at (i : Fin 256) (q : Fin 4) : val_main_v119 x0 x1 (ix2 i q) = box x0 x1 (pick x0 x1 i) q := by
  unfold val_main_v119
  rw [Routing.gather_row gather_S20100x4_S256x1_S256x4_1_0_n_n_0_1_14 rfl rfl rfl rfl rfl _ _ i q (pick x0 x1 i) (v118_at x0 x1 i) (by norm_num)]
  rfl

/-- The ground-truth box of a chosen box. -/
theorem v126_at (i : Fin 256) : val_main_v126 x0 x1 (ix1 i) = BitVec.ofNat 32 (arg x0 x1 (pick x0 x1 i)).val := by
  unfold val_main_v126
  rw [Routing.gather_take1 gather_S20100_S256x1_S256_n_0_n_n_0_1_1 rfl rfl rfl rfl _ _ i (pick x0 x1 i) (v125_at x0 x1 i) (by norm_num), v95_at]

/-- The places at which the labels are gathered. -/
theorem v132_at (i : Fin 256) : val_main_v132 x0 x1 (ix2 i 0) = BitVec.ofNat 32 (arg x0 x1 (pick x0 x1 i)).val := by
  rw [val_main_v132_apply, show idx_main_v132 (ix2 i 0) = ix1 i from funext fun a => by fin_cases a; rfl, val_main_v131_apply, val_main_v128_apply, v126_at]
  exact keep _ (by omega) _

/-- The places at which the ground-truth boxes are gathered. -/
theorem v145_at (i : Fin 256) : val_main_v145 x0 x1 (ix2 i 0) = BitVec.ofNat 32 (arg x0 x1 (pick x0 x1 i)).val := by
  rw [val_main_v145_apply, show idx_main_v145 (ix2 i 0) = ix1 i from funext fun a => by fin_cases a; rfl, val_main_v144_apply, val_main_v141_apply, v126_at]
  exact keep _ (by omega) _

/-- The ground-truth boxes of the picks. -/
theorem v146_at (i : Fin 256) (q : Fin 4) : val_main_v146 x0 x1 (ix2 i q) = gt x1 (arg x0 x1 (pick x0 x1 i)) q := by
  unfold val_main_v146
  rw [Routing.gather_row gather_S100x4_S256x1_S256x4_1_0_n_n_0_1_14 rfl rfl rfl rfl rfl _ _ i q (arg x0 x1 (pick x0 x1 i)) (v145_at x0 x1 i) (by norm_num)]
  rfl

variable (x2 : (⟨S1x100x21, .f32⟩ : BufTy).Contents (Elt Ideal))

/-- The labels of the picks. -/
theorem v133_at (i : Fin 256) (l : Fin 21) : val_main_v133 x0 x1 x2 (ix2 i l) = val_main_v4 x2 (ix2 (arg x0 x1 (pick x0 x1 i)) l) := by
  unfold val_main_v133
  rw [Routing.gather_row gather_S100x21_S256x1_S256x21_1_0_n_n_0_1_121 rfl rfl rfl rfl rfl _ _ i l (arg x0 x1 (pick x0 x1 i)) (v132_at x0 x1 i) (by norm_num)]

/-- Whether a row is of the foreground: its overlap at least one half, and the row one of the first 128. -/
def fg (i : Fin 256) : Bool := decide ((FloatOps.ofBits .f32 0x3F000000#32 : Ideal .f32) ≤ best x0 x1 (pick x0 x1 i)) && decide (i.val < 128)

/-- Whether a chosen box is in the foreground. -/
theorem v112_at (i : Fin 256) : val_main_v112 x0 x1 (ix1 i) = BitVec.ofBool (fg x0 x1 i) := by
  rw [val_main_v112_apply, val_main_v109_apply, v107_at, val_main_v108_apply, val_main_cst_12_apply, val_main_v111_apply, val_main_v110_apply,
    val_main_c_13_apply, val_main_v100_apply]
  have c : IntOp.cmpi .slt (BitVec.ofNat 32 i.val) 128#32 = BitVec.ofBool (decide (i.val < 128)) := WordCmp.cmpi_slt_ofNat (by omega) (by norm_num)
  unfold fg
  generalize best x0 x1 (pick x0 x1 i) = a
  generalize (FloatOps.ofBits .f32 0x3F000000#32 : Ideal .f32) = b
  exact (congrArg (IntOp.andi (BitVec.ofBool (decide (b ≤ a)))) c).trans (WordCmp.andi_ofBool _ _)

/-- The labels of a row of the background. -/
theorem v137_at (i : Fin 256) (l : Fin 21) : val_main_v137 (F := Ideal) (ix2 i l) = if l = 0 then (1 : EReal) else 0 := by
  have hz : (val_main_v135 (F := Ideal) (ix1 0)).toInt = ((0 : Fin 21).val : Int) := by
    rw [val_main_v135_apply, val_main_c_21_apply]
    decide
  have lands := Routing.lands_col scatter_S256x21_S1_S256_0_1_1_0 rfl rfl (val_main_v135 (F := Ideal)) 0 hz
  unfold val_main_v137
  by_cases h : l = 0
  · rw [if_pos h]
    refine Routing.scatter_set_hit _ _ _ _ _ _ (fun j _ => ?_) (ix1 i) ((lands i i l).2 ⟨rfl, h⟩)
    rw [val_main_v136_apply, val_main_cst_22_apply, one_f32]
  · rw [if_neg h]
    refine (Routing.scatter_set_miss _ _ _ _ _ fun j hj => h ((lands (j 0) i l).1 ?_).2).trans ?_
    · rw [← hj]
      exact congrArg (fun t => ScatterDims.resultIdx? _ t _) (funext fun a => by fin_cases a; rfl)
    · rw [val_main_v134_apply, val_main_cst_20_apply, zero_f32]

/-- Result 1: the labels. -/
theorem v139_at (i : Fin 256) (l : Fin 21) : val_main_v139 x0 x1 x2 (ix2 i l) =
    if fg x0 x1 i = true then val_main_v4 x2 (ix2 (arg x0 x1 (pick x0 x1 i)) l) else if l = 0 then (1 : EReal) else 0 := by
  rw [val_main_v139_apply, val_main_call2_v0_apply, val_main_v138_apply, v133_at, v137_at,
    show idx_main_v138 (idx_main_call2_v0 (ix2 i l)) = ix1 i from funext fun a => by fin_cases a; rfl, v112_at, select_ofBool]

end Cert.RefRead
-- ==== Proof.Selected.lean ====
/- The kernel's 256 kept keys are the reference's picks: each holds the pick's greatest overlap, its position and the annotation it overlaps most. -/
module

public import proofs.«01_k».proof.Proof.Network
public import proofs.«01_k».proof.Proof.Entries
public import proofs.«01_k».proof.Proof.RefPicks

@[expose] public section

noncomputable section

namespace Cert.Select

open Cert.KernelIdeal Cert.KernelIdeal.Gen Idealize.ShloMosaic Idealize.ShloMosaic.ValueIdx
open Cert.RefRead (box gt ov arg best pick place)

/-- What the kernel is handed: the corners of every box laid out in planes, and the annotated boxes; all of them boxes. -/
structure Handed (a0 : FVec Ideal Cert.ReferenceIdeal.S1x20000x4 .f32) (a1 : FVec Ideal Cert.ReferenceIdeal.S1x100x4 .f32)
    (x0 : Vec Ideal S4x256x128 .f32) (x1 : Vec Ideal S100x4 .f32) : Prop where
  boxes : ∀ (i : Fin 256) (c : Fin 128) (h : 128 * i.val + c.val < 20100), boxAt x0 i c = box a0 a1 ⟨128 * i.val + c.val, h⟩
  given : ∀ j q, x1 (ix2 j q) = gt a1 j q
  isBox : ∀ n, IsBox (box a0 a1 n)
  isGiven : ∀ j, IsBox (gt a1 j)

variable (a0 : FVec Ideal Cert.ReferenceIdeal.S1x20000x4 .f32) (a1 : FVec Ideal Cert.ReferenceIdeal.S1x100x4 .f32)
variable (x0 : Vec Ideal S4x256x128 .f32) (x1 : Vec Ideal S100x4 .f32)

/-- A box's running maximum ends at its greatest overlap and the first annotation that has it. -/
theorem Handed.found (H : Handed a0 a1 x0 x1) (i : Fin 256) (c : Fin 128) (h : 128 * i.val + c.val < 20100) :
    found x0 x1 i c = (best a0 a1 ⟨128 * i.val + c.val, h⟩, (arg a0 a1 ⟨128 * i.val + c.val, h⟩).val) := by
  unfold Cert.Select.found best arg
  rw [H.boxes i c h]
  refine scan_firstMax (n := 99) (ov a0 a1 ⟨128 * i.val + c.val, h⟩) _ (fun k => ?_) fun k => ?_
  · unfold ovs ov
    rw [dif_pos k.isLt]
    exact congrArg (iou1 _) (funext fun q => H.given _ q)
  · unfold ovs
    split_ifs with hk
    · refine iou1_nonneg (H.isBox _) ?_
      rw [show (fun q => x1 (ix2 ⟨k, hk⟩ q)) = gt a1 ⟨k, hk⟩ from funext fun q => H.given _ q]
      exact H.isGiven _
    · exact le_rfl

/-- A greatest overlap is not negative. -/
theorem Handed.best_nonneg (H : Handed a0 a1 x0 x1) (n : Fin 20100) : 0 ≤ best a0 a1 n := iou1_nonneg (H.isBox n) (H.isGiven _)

section Words

variable (c : Dev nD) (arg0 : Memref sig Kind.tc Space.vmem S4x256x128 EltTy.f32) (harg0 : arg0.IsWhole)
  (arg1 : Memref sig Kind.tc Space.smem S100x4 EltTy.f32) (harg1 : arg1.IsWhole)
  (arg2 : Memref sig Kind.tc Space.vmem S4x100 EltTy.f32) (harg2 : arg2.IsWhole)
  (arg3 : Memref sig Kind.tc Space.vmem S21x100 EltTy.f32) (harg3 : arg3.IsWhole)
  (arg4 : Memref sig Kind.tc Space.vmem S256x4 EltTy.f32) (harg4 : arg4.IsWhole)
  (arg5 : Memref sig Kind.tc Space.vmem S256x21 EltTy.f32) (harg5 : arg5.IsWhole)
  (arg6 : Memref sig Kind.tc Space.vmem S256x84 EltTy.f32) (harg6 : arg6.IsWhole)

/-- The kernel's kept keys, in order. -/
theorem Handed.kept (H : Handed a0 a1 x0 x1) (i : Fin 256) :
    kernelRun0_A.sl.r_254 c arg0 harg0 arg1 harg1 arg2 harg2 arg3 harg3 arg4 harg4 arg5 harg5 arg6 harg6 x0 x1 (ix2 i 0) = best a0 a1 (pick a0 a1 i) ∧
      kernelRun0_A.sl.r_255 (F := Ideal) c arg0 harg0 arg1 harg1 arg2 harg2 arg3 harg3 arg4 harg4 arg5 harg5 arg6 harg6 x0 x1 (ix2 i 0) =
        packed (pick a0 a1 i).val (arg a0 a1 (pick a0 a1 i)).val := by
  rw [selected_m, selected_p, overlaps_m, overlaps_p]
  refine key_inj ?_
  refine (congrFun (congrFun (network_eq (maxOf (plane 0 x0) (plane 1 x0) (plane 2 x0) (plane 3 x0) (area x0) x1,
    packOf (plane 0 x0) (plane 1 x0) (plane 2 x0) (plane 3 x0) (area x0) x1)) 0) i).trans ?_
  refine lastColumn_order _ (best a0 a1) (fun n => (arg a0 a1 n).val)
    (fun n => if h : n < 32768 then key (-1 : EReal) (packOf (plane 0 x0) (plane 1 x0) (plane 2 x0) (plane 3 x0) (area x0) x1
      (ix2 ⟨n / 128, by omega⟩ ⟨n % 128, by omega⟩)) else key (-1 : EReal) 0#32)
    (H.best_nonneg a0 a1 x0 x1) (fun n => lt_trans (arg a0 a1 n).isLt (by norm_num)) (fun n => ?_) (fun r l => ?_) i
  · split_ifs
    · exact ⟨_, rfl⟩
    · exact ⟨_, rfl⟩
  · show key (maxOf (plane 0 x0) (plane 1 x0) (plane 2 x0) (plane 3 x0) (area x0) x1 (ix2 r l))
      (packOf (plane 0 x0) (plane 1 x0) (plane 2 x0) (plane 3 x0) (area x0) x1 (ix2 r l)) = _
    rw [maxOf_at]
    by_cases h : 128 * r.val + l.val < 20100
    · rw [if_pos h, dif_pos h, packOf_at, H.found a0 a1 x0 x1 r l h]
      rfl
    · have hr := r.isLt
      have hl := l.isLt
      rw [if_neg h, dif_neg h, dif_pos (by omega)]
      congr 2
      refine congrArg₂ ix2 (Fin.ext ?_) (Fin.ext ?_)
      · show r.val = (128 * r.val + l.val) / 128
        omega
      · show l.val = (128 * r.val + l.val) % 128
        omega

end Words

end Cert.Select
-- ==== Proof.TailWords.lean ====
/- The kernel's whole-number quotients and remainders on small words, the sums that select one entry, and the rows it gathers by them. -/
module

public import proofs.«01_k».proof.Proof.StageCols
public import Idealize.ShloMosaic.Lib.Pointwise.ElementwiseCore
public import Idealize.ShloMosaic.Lib.Routing.Words
public import Idealize.ShloMosaic.Lib.MatmulPlain
public import Idealize.ShloMosaic.PureOps.Ideal.Laws
public import Idealize.ShloMosaic.Lib.IdealHost

@[expose] public section

noncomputable section

namespace Cert.Select

open Cert.KernelIdeal Cert.KernelIdeal.Gen Idealize.ShloMosaic Idealize.ShloMosaic.ValueIdx
open scoped BigOperators

/-! ## Words -/

/-- The floored quotient of two small words, as the kernel writes it. -/
theorem floor_word {n d : Nat} (hn : n < 2 ^ 31) (h0 : 0 < d) (hd : d < 2 ^ 31) (s : BitVec 32) (hs : s = 1#32) :
    Scalar.select (IntOp.andi (IntOp.cmpi .ne (IntOp.subi (BitVec.setWidth 32 (IntOp.cmpi .sgt (BitVec.ofNat 32 n) 0#32))
        (BitVec.setWidth 32 (IntOp.cmpi .slt (BitVec.ofNat 32 n) 0#32))) s) (IntOp.cmpi .ne (IntOp.remsi .vector (BitVec.ofNat 32 n) (BitVec.ofNat 32 d)) 0#32))
      (IntOp.subi (IntOp.divsi .vector (BitVec.ofNat 32 n) (BitVec.ofNat 32 d)) 1#32)
      (IntOp.divsi .vector (BitVec.ofNat 32 n) (BitVec.ofNat 32 d)) = BitVec.ofNat 32 (n / d) := by
  have hlt : IntOp.cmpi .slt (BitVec.ofNat 32 n) 0#32 = BitVec.ofBool (decide (n < 0)) := WordCmp.cmpi_slt_ofNat hn (by norm_num)
  have hgt : IntOp.cmpi .sgt (BitVec.ofNat 32 n) 0#32 = BitVec.ofBool (decide (0 < n)) := WordCmp.cmpi_slt_ofNat (a := 0) (by norm_num) hn
  rw [Routing.divsi_word _ hn h0 hd, Routing.remsi_word _ hn h0 hd, hlt, hgt, hs]
  rcases Nat.eq_zero_or_pos n with rfl | hp
  · rw [Nat.zero_mod, Nat.zero_div]
    decide
  · rw [decide_eq_true hp, decide_eq_false (Nat.not_lt_zero n)]
    generalize IntOp.cmpi .ne (BitVec.ofNat 32 (n % d)) 0#32 = b
    generalize IntOp.subi (BitVec.ofNat 32 (n / d)) 1#32 = y
    have e : IntOp.andi (IntOp.cmpi .ne (IntOp.subi (BitVec.setWidth 32 (BitVec.ofBool true)) (BitVec.setWidth 32 (BitVec.ofBool false))) 1#32) b = 0#1 := by
      rw [show IntOp.cmpi .ne (IntOp.subi (BitVec.setWidth 32 (BitVec.ofBool true)) (BitVec.setWidth 32 (BitVec.ofBool false))) 1#32 = 0#1 by decide]
      exact BitVec.zero_and
    rw [e]
    rfl

/-- The remainder of two small words, as the kernel writes it. -/
theorem mod_word {n d : Nat} (hn : n < 2 ^ 31) (h0 : 0 < d) (hd : d < 2 ^ 31) (z : BitVec 1) (hz : z = 0#1) (y : BitVec 32) :
    Scalar.select (IntOp.andi (IntOp.xori (IntOp.cmpi .slt (IntOp.remsi .vector (BitVec.ofNat 32 n) (BitVec.ofNat 32 d)) 0#32) z)
        (IntOp.cmpi .ne (IntOp.remsi .vector (BitVec.ofNat 32 n) (BitVec.ofNat 32 d)) 0#32)) y
      (IntOp.remsi .vector (BitVec.ofNat 32 n) (BitVec.ofNat 32 d)) = BitVec.ofNat 32 (n % d) := by
  have hr : n % d < 2 ^ 31 := lt_of_le_of_lt (Nat.mod_le n d) hn
  have hlt : IntOp.cmpi .slt (BitVec.ofNat 32 (n % d)) 0#32 = BitVec.ofBool (decide (n % d < 0)) := WordCmp.cmpi_slt_ofNat hr (by norm_num)
  rw [Routing.remsi_word _ hn h0 hd, hlt, hz, decide_eq_false (Nat.not_lt_zero _)]
  generalize IntOp.cmpi .ne (BitVec.ofNat 32 (n % d)) 0#32 = b
  have e : IntOp.andi (IntOp.xori (BitVec.ofBool false) 0#1) b = 0#1 := by
    rw [show IntOp.xori (BitVec.ofBool false) 0#1 = 0#1 by decide]
    exact BitVec.zero_and
  rw [e]
  rfl

/-- Equality of two small words. -/
theorem eq_word {a b : Nat} (ha : a < 2 ^ 31) (hb : b < 2 ^ 31) :
    IntOp.cmpi .eq (BitVec.ofNat 32 a) (BitVec.ofNat 32 b) = BitVec.ofBool (decide (a = b)) := by
  rw [WordCmp.cmpi_eq_eq]
  exact congrArg BitVec.ofBool (decide_eq_decide.mpr (WordCmp.ofNat_eq_ofNat_iff (by omega) (by omega)))

/-! ## Numbers -/

/-- A small word as a number. -/
theorem number_word {a : Nat} (ha : a < 2 ^ 31) : (FloatOps.sitofp .f32 (BitVec.ofNat 32 a) : Ideal .f32) = (((a : ℕ) : ℝ) : EReal) := by
  show ((((BitVec.ofNat 32 a).toInt : ℤ) : ℝ) : EReal) = _
  rw [WordCmp.toInt_ofNat_of_lt ha, Int.cast_natCast]

/-- Equality of two whole numbers. -/
theorem number_eq (a b : Nat) : (FloatOps.cmpf (F := Ideal) (φ := .f32) .oeq (((a : ℕ) : ℝ) : EReal) (((b : ℕ) : ℝ) : EReal)) = BitVec.ofBool (decide (a = b)) := by
  refine Eq.trans (b := BitVec.ofBool (decide ((((a : ℕ) : ℝ) : EReal) = (((b : ℕ) : ℝ) : EReal)))) rfl (congrArg BitVec.ofBool (decide_eq_decide.mpr ?_))
  rw [EReal.coe_eq_coe_iff, Nat.cast_inj]

/-- A bit, widened, as a number. -/
theorem number_bit (p : Bool) : (FloatOps.sitofp .f32 (BitVec.setWidth 32 (BitVec.ofBool p)) : Ideal .f32) = if p = true then (1 : EReal) else 0 := by
  cases p
  · exact (number_word (a := 0) (by norm_num)).trans (by norm_num)
  · exact (number_word (a := 1) (by norm_num)).trans (by norm_num)

/-- A small whole number as a word. -/
theorem word_number {a : Nat} (ha : a < 2 ^ 31) : (FloatOps.fptosi (F := Ideal) (φ := .f32) 32 (((a : ℕ) : ℝ) : EReal)) = BitVec.ofNat 32 a := by
  show BitVec.ofInt 32 (max (-((2 ^ (32 - 1) : Nat) : ℤ)) (min (((2 ^ (32 - 1) : Nat) : ℤ) - 1) (if (0 : ℝ) ≤ ((a : ℕ) : ℝ) then ⌊((a : ℕ) : ℝ)⌋ else ⌈((a : ℕ) : ℝ)⌉))) = _
  rw [if_pos (Nat.cast_nonneg a), Int.floor_natCast, min_eq_right (by norm_num; omega), max_eq_right (by norm_num)]
  exact BitVec.ofInt_natCast 32 a

/-! ## Sums that select -/

/-- A sum of products with the indicator of one place. -/
theorem pick_row {n : Nat} (f w : Fin n → EReal) (b : Fin n) (hw : ∀ k, w k = if b = k then 1 else 0) : ∑ k, w k * f k = f b := by
  simp only [hw, ite_mul, one_mul, zero_mul, Finset.sum_ite_eq, Finset.mem_univ, if_true]

/-- A sum in which all but one place is set to nought. -/
theorem pick_place {n : Nat} (f : Fin n → EReal) (w : Fin n → BitVec 1) (z : EReal) (hz : z = 0) (b : Fin n)
    (hw : ∀ k, w k = BitVec.ofBool (decide (b.val = k.val))) : ∑ k, Scalar.select (w k) (f k) z = f b := by
  have e : ∀ k, Scalar.select (w k) (f k) z = if b = k then f k else 0 := fun k => by
    rw [hw, select_ofBool, hz]
    simp only [decide_eq_true_eq, Fin.ext_iff]
  simp only [e, Finset.sum_ite_eq, Finset.mem_univ, if_true]

/-- A vector as a column. -/
theorem column_of {α : Type} (x : S256.Idx → α) (h : S256.ShapeCasts S256x1) (i : Fin 256) : shapeCast S256x1 x h (ix2 i 0) = x (ix1 i) := by
  refine shapeCast_apply x h _ _ ?_
  rw [Shape.rowMajor_val_two, Shape.rowMajor_val_one]
  show i.val = i.val * 1 + 0
  omega

/-- The sums of the rows. -/
theorem sum_rows {w : Nat} (x : FVec Ideal ⟨2, ![256, w]⟩ .f32) (acc : BitVec 32) (h : (⟨2, ![256, w]⟩ : Shape).Reduces [1] S256)
    (hl : ∀ (i : Fin 256) (k : Fin w), h.lift (ix1 i) k = ix2 i k) (hφ : FKind.Formats .f32) (hacc : acc = FKind.add.neutral .f32 hφ) (i : Fin 256) :
    multiReduction .add [1] S256 x acc h hφ hacc (ix1 i) = ∑ k : Fin w, (x (ix2 i k) : EReal) := by
  rw [Ideal.multiReduction_add_single]
  exact Finset.sum_congr rfl fun k _ => congrArg x (hl i k)

/-- The column numbers of a row. -/
theorem numbers_row {w : Nat} (h : (⟨2, ![1, w]⟩ : Shape).Iotas .tc 32 [1]) (j : Fin w) :
    iota .tc ⟨2, ![1, w]⟩ 32 [1] h (ix2 0 j) = BitVec.ofNat 32 j.val := by
  show BitVec.ofNat 32 (0 * w + j.val) = _
  rw [Nat.zero_mul, Nat.zero_add]

/-- The row numbers of a column. -/
theorem numbers_col {w : Nat} (h : (⟨2, ![w, 1]⟩ : Shape).Iotas .tc 32 [0]) (j : Fin w) :
    iota .tc ⟨2, ![w, 1]⟩ 32 [0] h (ix2 j 0) = BitVec.ofNat 32 j.val := by
  show BitVec.ofNat 32 (0 * w + j.val) = _
  rw [Nat.zero_mul, Nat.zero_add]

/-! ## Rows gathered -/

/-- An array times a matrix, its entries as sums. -/
theorem product_at (w : FVec Ideal S256x256 .bf16) (v : FVec Ideal S256x128 .bf16) (i : Fin 256) (l : Fin 128) (r : Fin 256)
    (hw : ∀ k, w (ix2 i k) = if r = k then (1 : EReal) else 0) :
    matmul dot_S256x256_S256x128_S256x128_1_0_0_1_n_n none w v (constant S256x128 .f32 0x00000000#32) (ix2 i l) = v (ix2 r l) := by
  refine (Ideal.matmul_plain_apply (M := 256) (K := 256) (N := 128) none w v (constant S256x128 .f32 0x00000000#32) i l).trans ?_
  rw [pick_row (fun k => v (ix2 k l)) (fun k => w (ix2 i k)) r hw]
  show Ideal.ofBits .f32 0x00000000#32 + _ = _
  rw [Ideal.ofBits_zero_f32, zero_add]

/-- The entries of an array that a row indicator and a column mask select, the array split in three parts that add up to it. -/
def gathered (w : FVec Ideal S256x256 .bf16) (k : IVec S256x128 1) (v : FVec Ideal S256x128 .f32) : FVec Ideal S256x1 .f32 :=
  k0_pay765 w k (k0_pay761 v) (k0_pay763 v) (k0_pay764 v)

/-- A product with a marked place gathers the entry there. -/
theorem gathered_at (w : FVec Ideal S256x256 .bf16) (k : IVec S256x128 1) (v : FVec Ideal S256x128 .f32) (i : Fin 256) (r : Fin 256) (l : Fin 128)
    (hw : ∀ j, w (ix2 i j) = if r = j then (1 : EReal) else 0) (hk : ∀ j : Fin 128, k (ix2 i j) = BitVec.ofBool (decide (l.val = j.val)))
    (x : ℝ) (hv : v (ix2 r l) = (x : EReal)) : gathered w k v (ix2 i 0) = v (ix2 r l) := by
  unfold gathered k0_pay765
  refine (column_of _ _ i).trans ((sum_rows (w := 128) _ _ _ (fun i k => by funext a; fin_cases a <;> rfl) _ _ i).trans ?_)
  refine (pick_place _ (fun j => k (ix2 i j)) _ Ideal.ofBits_zero_f32 l hk).trans ?_
  show matmul dot_S256x256_S256x128_S256x128_1_0_0_1_n_n none w (k0_pay761 v) (constant S256x128 .f32 0x00000000#32) (ix2 i l) +
    (matmul dot_S256x256_S256x128_S256x128_1_0_0_1_n_n none w (k0_pay763 v) (constant S256x128 .f32 0x00000000#32) (ix2 i l) +
      matmul dot_S256x256_S256x128_S256x128_1_0_0_1_n_n none w (truncf .bf16 (k0_pay764 v) bitsLt_bf16_f32) (constant S256x128 .f32 0x00000000#32) (ix2 i l)) = _
  rw [product_at _ _ _ _ r hw, product_at _ _ _ _ r hw, product_at _ _ _ _ r hw]
  show (v (ix2 r l) : EReal) + ((v (ix2 r l) - v (ix2 r l)) + ((v (ix2 r l) - v (ix2 r l)) - (v (ix2 r l) - v (ix2 r l)))) = v (ix2 r l)
  rw [hv]
  simp only [← EReal.coe_sub, ← EReal.coe_add]
  norm_num

/-- The kernel's row indicator. -/
def rowMask (t : IVec S256x1 32) : FVec Ideal S256x256 .bf16 :=
  k0_pay759 t 128#32 (divsi t (broadcast S256x1 128#32)) (extui 32 (cmpi .sgt t (broadcast S256x1 0#32)) natLt_1_32) (cmpi .slt t (broadcast S256x1 0#32))

/-- The mark of a place's row. -/
theorem rowMask_at (t : IVec S256x1 32) (i : Fin 256) (r : Fin 256) (l : Fin 128) (ht : t (ix2 i 0) = BitVec.ofNat 32 (128 * r.val + l.val)) (j : Fin 256) :
    rowMask t (ix2 i j) = if r = j then (1 : EReal) else 0 := by
  unfold rowMask k0_pay759
  have hr := r.isLt
  have hl := l.isLt
  have hj := j.isLt
  have e := floor_word (n := 128 * r.val + l.val) (d := 128) (by omega) (by norm_num) (by norm_num)
    (Scalar.subi (Scalar.extui (Scalar.cmpi .sgt 128#32 0#32)) (Scalar.extui (Scalar.cmpi .slt 128#32 0#32))) (by decide)
  rw [show (128 * r.val + l.val) / 128 = r.val by omega] at e
  simp only [truncf_apply, sitofp_apply, extui_apply, cmpi_apply]
  rw [show ∀ x h, broadcastTo (α := BitVec 32) S256x256 x h (ix2 i j) = x (ix2 i 0) from fun x h => col_at x h i j,
    show ∀ x h, broadcastTo (α := BitVec 32) S256x256 x h (ix2 i j) = x (ix2 0 j) from fun x h => row_at x h i j]
  simp only [select_apply, andi_apply, cmpi_apply, subi_apply, extui_apply, remsi_apply, divsi_apply, broadcast_apply, ht]
  rw [show iota .tc S1x256 32 [1] iota_S1x256_d1_w32 (ix2 0 j) = BitVec.ofNat 32 j.val from numbers_row _ j]
  refine (congrArg (fun z : BitVec 32 => (FloatOps.sitofp .f32 (BitVec.setWidth 32 (IntOp.cmpi .eq z (BitVec.ofNat 32 j.val))) : Ideal .f32)) e).trans ?_
  rw [eq_word (by omega) (by omega), number_bit]
  simp only [decide_eq_true_eq, Fin.ext_iff]

/-- The kernel's column mask. -/
theorem colMask_at (t : IVec S256x1 32) (i : Fin 256) (r : Fin 256) (l : Fin 128) (ht : t (ix2 i 0) = BitVec.ofNat 32 (128 * r.val + l.val)) (j : Fin 128) :
    k0_pay760 t (ix2 i j) = BitVec.ofBool (decide (l.val = j.val)) := by
  unfold k0_pay760
  have hr := r.isLt
  have hl := l.isLt
  have hj := j.isLt
  have e := mod_word (n := 128 * r.val + l.val) (d := 128) (by omega) (by norm_num) (by norm_num) (Scalar.cmpi .slt 128#32 0#32) (by decide)
    (IntOp.addi (IntOp.remsi .vector (BitVec.ofNat 32 (128 * r.val + l.val)) 128#32) 128#32)
  rw [show (128 * r.val + l.val) % 128 = l.val by omega] at e
  simp only [cmpi_apply]
  rw [show ∀ x h, broadcastTo (α := BitVec 32) S256x128 x h (ix2 i j) = x (ix2 i 0) from fun x h => col_at x h i j,
    show ∀ x h, broadcastTo (α := BitVec 32) S256x128 x h (ix2 i j) = x (ix2 0 j) from fun x h => row_at x h i j]
  simp only [select_apply, andi_apply, xori_apply, addi_apply, cmpi_apply, subi_apply, extui_apply, remsi_apply, divsi_apply, broadcast_apply, ht,
    show Scalar.select (Scalar.cmpi .eq 128#32 0#32) 1#32 128#32 = 128#32 by decide]
  rw [show iota .tc S1x128 32 [1] iota_S1x128_d1_w32 (ix2 0 j) = BitVec.ofNat 32 j.val from numbers_row _ j]
  refine (congrArg (fun z : BitVec 32 => IntOp.cmpi .eq z (BitVec.ofNat 32 j.val)) e).trans ?_
  rw [eq_word (by omega) (by omega)]

/-- The quotient of the packed words by 128. -/
theorem quotient_at (a b d e f g) (p : IVec S256x1 32) (hp : k0_pay754 (F := Ideal) a b d e f g = p) (i : Fin 256) (n : Nat) (hn : n < 2 ^ 31)
    (h : p (ix2 i 0) = BitVec.ofNat 32 n) : k0_pay755 (F := Ideal) a b d e f g (ix2 i 0) = BitVec.ofNat 32 (n / 128) := by
  unfold k0_pay755
  rw [hp]
  simp only [select_apply, andi_apply, cmpi_apply, subi_apply, extui_apply, remsi_apply, divsi_apply, broadcast_apply, h]
  exact floor_word hn (by norm_num) (by norm_num) _ (by decide)

end Cert.Select
-- ==== Proof.RefTargets.lean ====
/- The reference's class of a row, and its regression targets laid out by class. -/
module

public import proofs.«01_k».proof.Proof.RefPicks

@[expose] public section

noncomputable section

namespace Cert.RefRead

open Cert.ReferenceIdeal Cert.ReferenceIdeal.Gen Cert.ReferenceIdeal.Read Cert.Select Idealize.ShloMosaic Idealize.ShloMosaic.ValueIdx

/-- One half. -/
def half : EReal := (FloatOps.ofBits .f32 0x3F000000#32 : Ideal .f32)

/-- The bits of a half. -/
theorem half_f32 : (FloatOps.ofBits .f32 0x3F000000#32 : Ideal .f32) = half := rfl

/-- The shift, over the box's side, that carries a side of a box to that of a ground-truth box. -/
def shift (a a' g g' : EReal) : EReal := Ideal.div ((g + half * (g' - g + 1)) - (a + half * (a' - a + 1))) (a' - a + 1)

/-- The logarithm of the scale that carries a side of a box to that of a ground-truth box. -/
def scale (a a' g g' : EReal) : EReal := (FloatOps.hostUnary .log (Ideal.div (g' - g + 1) (a' - a + 1) : Ideal .f32) : Ideal .f32)

/-- The shift and the scale, in x and in y, that carry a box to a ground-truth box. -/
def target (a g : Fin 4 → EReal) (q : Fin 4) : EReal :=
  if q = 0 then shift (a 0) (a 2) (g 0) (g 2) else if q = 1 then shift (a 1) (a 3) (g 1) (g 3)
  else if q = 2 then scale (a 0) (a 2) (g 0) (g 2) else scale (a 1) (a 3) (g 1) (g 3)

/-- The first target is a shift along the first axis. -/
theorem target_zero (a g : Fin 4 → EReal) : target a g 0 = shift (a 0) (a 2) (g 0) (g 2) := if_pos rfl

/-- The second target is a shift along the second axis. -/
theorem target_one (a g : Fin 4 → EReal) : target a g 1 = shift (a 1) (a 3) (g 1) (g 3) := (if_neg (by decide)).trans (if_pos rfl)

/-- The third target is a scale along the first axis. -/
theorem target_two (a g : Fin 4 → EReal) : target a g 2 = scale (a 0) (a 2) (g 0) (g 2) :=
  (if_neg (by decide)).trans ((if_neg (by decide)).trans (if_pos rfl))

/-- The fourth target is a scale along the second axis. -/
theorem target_three (a g : Fin 4 → EReal) : target a g 3 = scale (a 1) (a 3) (g 1) (g 3) :=
  (if_neg (by decide)).trans ((if_neg (by decide)).trans (if_neg (by decide)))

variable (x0 : (⟨S1x20000x4, .f32⟩ : BufTy).Contents (Elt Ideal)) (x1 : (⟨S1x100x4, .f32⟩ : BufTy).Contents (Elt Ideal))

/-- A coordinate of a chosen box, as a column. -/
theorem c148 (i : Fin 256) : val_main_v148 x0 x1 (ix1 i) = box x0 x1 (pick x0 x1 i) 2 := (column_at 2 (val_main_v119 x0 x1) _ _ (ix1 i)).trans (v119_at x0 x1 i 2)
/-- A coordinate of a chosen box, as a column. -/
theorem c150 (i : Fin 256) : val_main_v150 x0 x1 (ix1 i) = box x0 x1 (pick x0 x1 i) 0 := (column_at 0 (val_main_v119 x0 x1) _ _ (ix1 i)).trans (v119_at x0 x1 i 0)
/-- A coordinate of a chosen box, as a column. -/
theorem c155 (i : Fin 256) : val_main_v155 x0 x1 (ix1 i) = box x0 x1 (pick x0 x1 i) 3 := (column_at 3 (val_main_v119 x0 x1) _ _ (ix1 i)).trans (v119_at x0 x1 i 3)
/-- A coordinate of a chosen box, as a column. -/
theorem c157 (i : Fin 256) : val_main_v157 x0 x1 (ix1 i) = box x0 x1 (pick x0 x1 i) 1 := (column_at 1 (val_main_v119 x0 x1) _ _ (ix1 i)).trans (v119_at x0 x1 i 1)
/-- A coordinate of a chosen box, as a column. -/
theorem c162 (i : Fin 256) : val_main_v162 x0 x1 (ix1 i) = box x0 x1 (pick x0 x1 i) 0 := (column_at 0 (val_main_v119 x0 x1) _ _ (ix1 i)).trans (v119_at x0 x1 i 0)
/-- A coordinate of a chosen box, as a column. -/
theorem c167 (i : Fin 256) : val_main_v167 x0 x1 (ix1 i) = box x0 x1 (pick x0 x1 i) 1 := (column_at 1 (val_main_v119 x0 x1) _ _ (ix1 i)).trans (v119_at x0 x1 i 1)

/-- The ground-truth box of a row's pick. -/
def truth (i : Fin 256) : Fin 4 → EReal := gt x1 (arg x0 x1 (pick x0 x1 i))

/-- A coordinate of a chosen box's ground-truth box, as a column. -/
theorem c172 (i : Fin 256) : val_main_v172 x0 x1 (ix1 i) = truth x0 x1 i 2 := (column_at 2 (val_main_v146 x0 x1) _ _ (ix1 i)).trans (v146_at x0 x1 i 2)
/-- A coordinate of a chosen box's ground-truth box, as a column. -/
theorem c174 (i : Fin 256) : val_main_v174 x0 x1 (ix1 i) = truth x0 x1 i 0 := (column_at 0 (val_main_v146 x0 x1) _ _ (ix1 i)).trans (v146_at x0 x1 i 0)
/-- A coordinate of a chosen box's ground-truth box, as a column. -/
theorem c179 (i : Fin 256) : val_main_v179 x0 x1 (ix1 i) = truth x0 x1 i 3 := (column_at 3 (val_main_v146 x0 x1) _ _ (ix1 i)).trans (v146_at x0 x1 i 3)
/-- A coordinate of a chosen box's ground-truth box, as a column. -/
theorem c181 (i : Fin 256) : val_main_v181 x0 x1 (ix1 i) = truth x0 x1 i 1 := (column_at 1 (val_main_v146 x0 x1) _ _ (ix1 i)).trans (v146_at x0 x1 i 1)
/-- A coordinate of a chosen box's ground-truth box, as a column. -/
theorem c186 (i : Fin 256) : val_main_v186 x0 x1 (ix1 i) = truth x0 x1 i 0 := (column_at 0 (val_main_v146 x0 x1) _ _ (ix1 i)).trans (v146_at x0 x1 i 0)
/-- A coordinate of a chosen box's ground-truth box, as a column. -/
theorem c191 (i : Fin 256) : val_main_v191 x0 x1 (ix1 i) = truth x0 x1 i 1 := (column_at 1 (val_main_v146 x0 x1) _ _ (ix1 i)).trans (v146_at x0 x1 i 1)

/-- The picks' widths and heights, and those of their ground-truth boxes. -/
theorem v153_at (i : Fin 256) : val_main_v153 x0 x1 (ix1 i) = box x0 x1 (pick x0 x1 i) 2 - box x0 x1 (pick x0 x1 i) 0 + 1 := by
  rw [val_main_v153_apply, val_main_v151_apply, c148, c150, val_main_v152_apply, val_main_cst_25_apply, one_f32]
  rfl

/-- A chosen box's height. -/
theorem v160_at (i : Fin 256) : val_main_v160 x0 x1 (ix1 i) = box x0 x1 (pick x0 x1 i) 3 - box x0 x1 (pick x0 x1 i) 1 + 1 := by
  rw [val_main_v160_apply, val_main_v158_apply, c155, c157, val_main_v159_apply, val_main_cst_26_apply, one_f32]
  rfl

/-- Its ground-truth box's width. -/
theorem v177_at (i : Fin 256) : val_main_v177 x0 x1 (ix1 i) = truth x0 x1 i 2 - truth x0 x1 i 0 + 1 := by
  rw [val_main_v177_apply, val_main_v175_apply, c172, c174, val_main_v176_apply, val_main_cst_29_apply, one_f32]
  rfl

/-- Its ground-truth box's height. -/
theorem v184_at (i : Fin 256) : val_main_v184 x0 x1 (ix1 i) = truth x0 x1 i 3 - truth x0 x1 i 1 + 1 := by
  rw [val_main_v184_apply, val_main_v182_apply, c179, c181, val_main_v183_apply, val_main_cst_30_apply, one_f32]
  rfl

/-- The targets of a row. -/
theorem v196_at (i : Fin 256) : val_main_v196 x0 x1 (ix1 i) = target (box x0 x1 (pick x0 x1 i)) (truth x0 x1 i) 0 := by
  rw [target_zero, val_main_v196_apply, val_main_v195_apply, val_main_v189_apply, val_main_v165_apply, val_main_v188_apply, val_main_v164_apply, c186, c162,
    v177_at, v153_at, val_main_v187_apply, val_main_cst_31_apply, val_main_v163_apply, val_main_cst_27_apply, half_f32]
  rfl

/-- The second target. -/
theorem v198_at (i : Fin 256) : val_main_v198 x0 x1 (ix1 i) = target (box x0 x1 (pick x0 x1 i)) (truth x0 x1 i) 1 := by
  rw [target_one, val_main_v198_apply, val_main_v197_apply, val_main_v194_apply, val_main_v170_apply, val_main_v193_apply, val_main_v169_apply, c191, c167,
    v184_at, v160_at, val_main_v192_apply, val_main_cst_32_apply, val_main_v168_apply, val_main_cst_28_apply, half_f32]
  rfl

/-- The third target. -/
theorem v200_at (i : Fin 256) : val_main_v200 x0 x1 (ix1 i) = target (box x0 x1 (pick x0 x1 i)) (truth x0 x1 i) 2 := by
  rw [target_two, val_main_v200_apply, val_main_v199_apply, v177_at, v153_at]
  rfl

/-- The fourth target. -/
theorem v202_at (i : Fin 256) : val_main_v202 x0 x1 (ix1 i) = target (box x0 x1 (pick x0 x1 i)) (truth x0 x1 i) 3 := by
  rw [target_three, val_main_v202_apply, val_main_v201_apply, v184_at, v160_at]
  rfl

/-- Four columns side by side. -/
theorem four_at {α : Type} (y3 y4 y5 y6 : S256x1.Idx → α) (h) (i : Fin 256) (T : Fin 4 → α) (h3 : y3 (ix2 i 0) = T 0) (h4 : y4 (ix2 i 0) = T 1)
    (h5 : y5 (ix2 i 0) = T 2) (h6 : y6 (ix2 i 0) = T 3) (q : Fin 4) :
    concatenate S256x4 1 [⟨S256x1, y3⟩, ⟨S256x1, y4⟩, ⟨S256x1, y5⟩, ⟨S256x1, y6⟩] h (ix2 i q) = T q := by
  refine (concatenate_ofFn_apply (t := S256x4) (s₁ := S256x1) 1 ![y3, y4, y5, y6] h rfl 1 rfl (ix2 i q) q (Nat.div_one _) (ix2 i 0)
    (Nat.mod_one _).symm fun b hb => ?_).trans ?_
  · fin_cases b
    · rfl
    · exact absurd rfl hb
  · fin_cases q
    · exact h3
    · exact h4
    · exact h5
    · exact h6

/-- The table of targets. -/
theorem v207_at (i : Fin 256) (q : Fin 4) : val_main_v207 x0 x1 (ix2 i q) = target (box x0 x1 (pick x0 x1 i)) (truth x0 x1 i) q := by
  have e : ∀ f : S256.Idx → EReal, ∀ j : S256.Idx, j = ix1 i → f j = f (ix1 i) := fun f j h => congrArg f h
  unfold val_main_v207
  refine four_at _ _ _ _ _ i (target (box x0 x1 (pick x0 x1 i)) (truth x0 x1 i)) ?_ ?_ ?_ ?_ q
  · rw [val_main_v203_apply]
    exact (e _ _ (funext fun a => by fin_cases a; rfl)).trans (v196_at x0 x1 i)
  · rw [val_main_v204_apply]
    exact (e _ _ (funext fun a => by fin_cases a; rfl)).trans (v198_at x0 x1 i)
  · rw [val_main_v205_apply]
    exact (e _ _ (funext fun a => by fin_cases a; rfl)).trans (v200_at x0 x1 i)
  · rw [val_main_v206_apply]
    exact (e _ _ (funext fun a => by fin_cases a; rfl)).trans (v202_at x0 x1 i)

variable (x2 : (⟨S1x100x21, .f32⟩ : BufTy).Contents (Elt Ideal))

/-- The labels reduce along the classes. -/
theorem reduces_labels : S256x21.Reduces [1] S256 := by decide

/-- An entry of the labels, from its box and its class. -/
theorem lift_labels (k : Fin 256) (j : Fin 21) : reduces_labels.lift (ix1 k) j = ix2 k j := by
  funext a
  fin_cases a <;> rfl

/-- A bit as a number. -/
theorem bit_at (p : Bool) : (FloatOps.uitofp .f32 (BitVec.ofBool p) : Ideal .f32) = if p = true then (1 : EReal) else 0 := by
  cases p
  · exact (show ((((0 : ℕ) : ℝ) : EReal)) = 0 by norm_num)
  · exact (show ((((1 : ℕ) : ℝ) : EReal)) = 1 by norm_num)

/-- A row's class: that of its ground-truth box in the foreground, the first in the background. -/
def kind (cls : Fin 100 → Fin 21) (i : Fin 256) : Fin 21 := if fg x0 x1 i = true then cls (arg x0 x1 (pick x0 x1 i)) else 0

section OneHot

variable (cls : Fin 100 → Fin 21) (hcls : ∀ j l, val_main_v4 x2 (ix2 j l) = if l = cls j then (1 : EReal) else 0)

include hcls

/-- Result 1 where every ground-truth box has one class. -/
theorem labels_at (i : Fin 256) (l : Fin 21) : val_main_v139 x0 x1 x2 (ix2 i l) = if l = kind x0 x1 cls i then (1 : EReal) else 0 := by
  rw [v139_at, hcls]
  unfold kind
  split_ifs <;> rfl

/-- A chosen box's class is the first greatest of its labels. -/
theorem labels_first (i : Fin 256) : FirstMax (fun l : Fin 21 => val_main_v139 x0 x1 x2 (ix2 i l)) (kind x0 x1 cls i) := by
  constructor
  · intro l
    dsimp only
    rw [labels_at x0 x1 x2 cls hcls, labels_at x0 x1 x2 cls hcls, if_pos rfl]
    split_ifs
    · exact le_rfl
    · exact zero_le_one
  · intro l hl
    dsimp only
    rw [labels_at x0 x1 x2 cls hcls, labels_at x0 x1 x2 cls hcls, if_pos rfl, if_neg hl.ne]
    exact zero_lt_one

/-- The greatest of a chosen box's labels. -/
theorem v209_at (i : Fin 256) : val_main_v209 x0 x1 x2 (ix1 i) = val_main_v139 x0 x1 x2 (ix2 i (kind x0 x1 cls i)) := by
  unfold val_main_v209
  rw [reduce_row _ _ _ _ _ reduces_labels lift_labels, val_main_cst_33_apply, bot_f32]
  exact fold_max (n := 20) (fun l : Fin 21 => val_main_v139 x0 x1 x2 (ix2 i l)) (kind x0 x1 cls i) (labels_first x0 x1 x2 cls hcls i).1

/-- A class's number where its label is the greatest. -/
theorem v213_at (i : Fin 256) (l : Fin 21) : val_main_v213 x0 x1 x2 (ix2 i l) =
    if val_main_v139 x0 x1 x2 (ix2 i l) = val_main_v139 x0 x1 x2 (ix2 i (kind x0 x1 cls i)) then BitVec.ofNat 32 l.val else BitVec.ofNat 32 (20 + 1) := by
  have e : val_main_v209 x0 x1 x2 (idx_main_v210 (idx_main_v211 (ix2 i l))) = val_main_v139 x0 x1 x2 (ix2 i (kind x0 x1 cls i)) :=
    (congrArg (val_main_v209 x0 x1 x2) (funext fun a => by fin_cases a; rfl)).trans (v209_at x0 x1 x2 cls hcls i)
  rw [val_main_v213_apply, val_main_v212_apply, val_main_v211_apply, val_main_v210_apply, e, val_main_v208_apply, val_main_call3_v1_apply]
  show Scalar.select (FloatOps.cmpf (F := Ideal) (φ := .f32) .oeq (val_main_v139 x0 x1 x2 (ix2 i l)) (val_main_v139 x0 x1 x2 (ix2 i (kind x0 x1 cls i))))
    (BitVec.ofNat 32 l.val) (BitVec.ofNat 32 21) = _
  generalize val_main_v139 x0 x1 x2 (ix2 i l) = a
  generalize val_main_v139 x0 x1 x2 (ix2 i (kind x0 x1 cls i)) = b
  refine (select_ofBool (decide (a = b)) (BitVec.ofNat 32 l.val) (BitVec.ofNat 32 21)).trans ?_
  simp only [decide_eq_true_eq]

/-- The class of a chosen box. -/
theorem v214_at (i : Fin 256) : val_main_v214 x0 x1 x2 (ix1 i) = BitVec.ofNat 32 (kind x0 x1 cls i).val := by
  unfold val_main_v214
  rw [reduce_row _ _ _ _ _ reduces_labels lift_labels, val_main_c_35_apply]
  exact fold_first (n := 20) (by norm_num) (fun l : Fin 21 => val_main_v139 x0 x1 x2 (ix2 i l)) (kind x0 x1 cls i) (labels_first x0 x1 x2 cls hcls i) _
    (v213_at x0 x1 x2 cls hcls i)

/-- The class of a chosen box, marked among all. -/
theorem v215_at (i : Fin 256) (l : Fin 21) : val_main_v215 x0 x1 x2 (ix2 i l) = if l = kind x0 x1 cls i then (1 : EReal) else 0 := by
  have e : val_main_v214 x0 x1 x2 (idx_main_call4_v0 (idx_main_call4_v2 (ix2 i l))) = BitVec.ofNat 32 (kind x0 x1 cls i).val :=
    (congrArg (val_main_v214 x0 x1 x2) (funext fun a => by fin_cases a; rfl)).trans (v214_at x0 x1 x2 cls hcls i)
  rw [val_main_v215_apply, val_main_call4_v4_apply, val_main_call4_v2_apply, val_main_call4_v0_apply, e, val_main_call4_v3_apply, val_main_call4_v1_apply]
  have hk := (kind x0 x1 cls i).isLt
  have hl := l.isLt
  generalize hm : kind x0 x1 cls i = m at hk ⊢
  have c : IntOp.cmpi .eq (BitVec.ofNat 32 m.val) (BitVec.ofNat 32 l.val) = BitVec.ofBool (decide (l = m)) := by
    rw [WordCmp.cmpi_eq_eq]
    refine congrArg BitVec.ofBool (decide_eq_decide.mpr ?_)
    rw [WordCmp.ofNat_eq_ofNat_iff (by omega) (by omega)]
    exact ⟨fun h => Fin.ext h.symm, fun h => (congrArg Fin.val h).symm⟩
  refine (congrArg (fun v : BitVec 1 => (FloatOps.uitofp .f32 v : Ideal .f32)) c).trans ((bit_at _).trans ?_)
  simp only [decide_eq_true_eq]

/-- Result 2: a row's targets in the columns of its class, in the foreground. -/
theorem v225_at (i : Fin 256) (w : Fin 84) (l : Fin 21) (q : Fin 4) (hl : l.val = w.val / 4) (hq : q.val = w.val % 4) : val_main_v225 x0 x1 x2 (ix2 i w) =
    if l = kind x0 x1 cls i ∧ fg x0 x1 i = true then target (box x0 x1 (pick x0 x1 i)) (truth x0 x1 i) q else 0 := by
  have e : idx_main_v225 (ix2 i w) = ix3 i l q := by
    funext a
    have hi : i.val < 256 := i.isLt
    have hw : w.val < 84 := w.isLt
    fin_cases a
    · exact Fin.ext (show (i.val * 84 + w.val) / 84 = i.val by omega)
    · exact Fin.ext (show (i.val * 84 + w.val) / 4 % 21 = l.val by omega)
    · exact Fin.ext (show (i.val * 84 + w.val) % 4 = q.val by omega)
  rw [val_main_v225_apply, e, val_main_v224_apply, val_main_v220_apply, val_main_v218_apply, val_main_v216_apply, val_main_v219_apply, val_main_v217_apply,
    val_main_v223_apply, val_main_v222_apply, val_main_v221_apply,
    show idx_main_v216 (idx_main_v218 (ix3 i l q)) = ix2 i l from funext fun a => by fin_cases a <;> rfl,
    show idx_main_v217 (idx_main_v219 (ix3 i l q)) = ix2 i q from funext fun a => by fin_cases a <;> rfl,
    show idx_main_v221 (idx_main_v223 (ix3 i l q)) = ix1 i from funext fun a => by fin_cases a; rfl,
    v215_at x0 x1 x2 cls hcls, v207_at, v112_at, bit_at]
  generalize target (box x0 x1 (pick x0 x1 i)) (truth x0 x1 i) q = t
  show ((if l = kind x0 x1 cls i then (1 : EReal) else 0) * (t : EReal)) * (if fg x0 x1 i = true then (1 : EReal) else 0) = _
  by_cases h1 : l = kind x0 x1 cls i <;> by_cases h2 : fg x0 x1 i = true <;> simp [h1, h2]

end OneHot

end Cert.RefRead
-- ==== Proof.TailValues.lean ====
/- What the kernel's last words hold for one chosen box: the annotation it overlaps most, its label, the targets, and the three results. -/
module

public import proofs.«01_k».proof.Proof.TailWords
public import proofs.«01_k».proof.Proof.RefTargets

@[expose] public section

noncomputable section

namespace Cert.Select

open Cert.KernelIdeal Cert.KernelIdeal.Gen Idealize.ShloMosaic Idealize.ShloMosaic.ValueIdx
open Cert.RefRead (half shift scale target)
open scoped BigOperators

/-- An array read at its own shape. -/
theorem cast_same {α : Type} {s : Shape} (x : s.Idx → α) (h : s.ShapeCasts s) (i : s.Idx) : shapeCast s x h i = x i :=
  shapeCast_apply x h i i rfl

/-! ## The annotation a box overlaps most -/

/-- The mask of the annotation named by the packed word's low bits. -/
theorem named_at (p : IVec S256x1 32) (i : Fin 256) (n : Nat) (hn : n < 2 ^ 24) (a : Fin 100) (hp : p (ix2 i 0) = BitVec.ofNat 32 (n * 128 + a.val)) (j : Fin 100) :
    k0_pay771 (F := Ideal) p (ix2 i j) = BitVec.ofBool (decide (a.val = j.val)) := by
  unfold k0_pay771
  have ha := a.isLt
  have hj := j.isLt
  have e := mod_word (n := n * 128 + a.val) (d := 128) (by omega) (by norm_num) (by norm_num) (Scalar.cmpi .slt 128#32 0#32) (by decide)
    (IntOp.addi (IntOp.remsi .vector (BitVec.ofNat 32 (n * 128 + a.val)) 128#32) 128#32)
  rw [show (n * 128 + a.val) % 128 = a.val by omega] at e
  simp only [cmpf_apply]
  rw [show ∀ x h, broadcastTo (α := Ideal .f32) S256x100 x h (ix2 i j) = x (ix2 i 0) from fun x h => col_at x h i j,
    show ∀ x h, broadcastTo (α := Ideal .f32) S256x100 x h (ix2 i j) = x (ix2 0 j) from fun x h => row_at x h i j]
  simp only [sitofp_apply, select_apply, andi_apply, xori_apply, addi_apply, cmpi_apply, remsi_apply, broadcast_apply, hp,
    show Scalar.select (Scalar.cmpi .eq 128#32 0#32) 1#32 128#32 = 128#32 by decide]
  rw [show iota .tc S1x100 32 [1] iota_S1x100_d1_w32 (ix2 0 j) = BitVec.ofNat 32 j.val from numbers_row _ j]
  refine (congrArg (fun z : BitVec 32 => FloatOps.cmpf (F := Ideal) (φ := .f32) .oeq (FloatOps.sitofp .f32 z) (FloatOps.sitofp .f32 (BitVec.ofNat 32 j.val))) e).trans ?_
  rw [number_word (by omega), number_word (by omega), number_eq]

/-- The entry of a row at the named annotation. -/
theorem named_entry (k : IVec S256x100 1) (y : FVec Ideal S1x100 .f32) (i : Fin 256) (a : Fin 100)
    (hk : ∀ j : Fin 100, k (ix2 i j) = BitVec.ofBool (decide (a.val = j.val))) : k0_pay773 k y (ix2 i 0) = y (ix2 0 a) := by
  unfold k0_pay773
  refine (column_of _ _ i).trans ((sum_rows (w := 100) _ _ _ (fun i k => by funext a; fin_cases a <;> rfl) _ _ i).trans ?_)
  refine (pick_place _ (fun j => k (ix2 i j)) _ Ideal.ofBits_zero_f32 a hk).trans ?_
  refine (row_at _ _ i a).trans ?_
  rw [cast_same, cast_same]

/-- A label's place times its indicator. -/
theorem label_term (y : FVec Ideal S21x100 .f32) (cls : Fin 100 → Fin 21) (a : Fin 100)
    (hy : ∀ (l : Fin 21) (j : Fin 100), y (ix2 l j) = if l = cls j then (1 : EReal) else 0) (l : Fin 21) :
    mulf (shapeCast S21x100 y shapeCasts_S21x100_S21x100)
      (broadcastTo S21x100 (sitofp .f32 (iota .tc S21x1 32 [0] iota_S21x1_d0_w32)) broadcasts_S21x1_S21x100) (ix2 l a) =
    (if cls a = l then (1 : EReal) else 0) * (((l.val : ℕ) : ℝ) : EReal) := by
  have hl := l.isLt
  rw [mulf_apply, cast_same, broadcastTo_apply _ _ (ix2 l a) (ix2 l 0) (fun b => by fin_cases b <;> rfl), sitofp_apply,
    show iota .tc S21x1 32 [0] iota_S21x1_d0_w32 (ix2 l 0) = BitVec.ofNat 32 l.val from numbers_col _ l, number_word (by omega), hy]
  show (if l = cls a then (1 : EReal) else 0) * _ = _
  simp only [eq_comm]

/-- The label of the named annotation, where each annotation's labels are an indicator. -/
theorem named_label (k : IVec S256x100 1) (y : FVec Ideal S21x100 .f32) (cls : Fin 100 → Fin 21) (i : Fin 256) (a : Fin 100)
    (hy : ∀ (l : Fin 21) (j : Fin 100), y (ix2 l j) = if l = cls j then (1 : EReal) else 0)
    (hk : ∀ j : Fin 100, k (ix2 i j) = BitVec.ofBool (decide (a.val = j.val))) : k0_pay776 (F := Ideal) k y (ix2 i 0) = ((((cls a).val : ℕ) : ℝ) : EReal) := by
  unfold k0_pay776
  refine (column_of _ _ i).trans ((sum_rows (w := 100) _ _ _ (fun i k => by funext a; fin_cases a <;> rfl) _ _ i).trans ?_)
  refine (pick_place _ (fun j => k (ix2 i j)) _ Ideal.ofBits_zero_f32 a hk).trans ?_
  refine (row_at _ _ i a).trans ?_
  rw [cast_same]
  refine (shapeCast_apply _ _ (ix2 0 a) (ix1 a) ?_).trans ?_
  · rw [Shape.rowMajor_val_two, Shape.rowMajor_val_one]
    show a.val = 0 * 100 + a.val
    omega
  refine (Ideal.multiReduction_add_single _ _ _ _ _ _).trans ?_
  refine Eq.trans (b := ∑ l : Fin 21, (if cls a = l then (1 : EReal) else 0) * (((l.val : ℕ) : ℝ) : EReal)) (Finset.sum_congr rfl fun l _ => ?_)
    (pick_row (fun l : Fin 21 => (((l.val : ℕ) : ℝ) : EReal)) _ (cls a) fun _ => rfl)
  exact (congrArg _ (show reduces_S21x100_S100.lift (ix1 a) l = ix2 (l : Fin 21) a by funext b; fin_cases b <;> rfl)).trans
    (label_term y cls a hy l)

/-! ## Targets -/

/-- One half is a real number. -/
theorem half_real : ∃ h : ℝ, half = (h : EReal) := by
  refine ⟨1 / 2, Eq.trans (b := Ideal.ofBits .f32 0x3F000000#32) rfl ?_⟩
  simp [Ideal.ofBits, Ideal.ieee, -EReal.coe_mul]
  norm_num

/-- The order in which the kernel subtracts a box's centre makes no difference between real numbers. -/
theorem shift_order (a a' g g' : ℝ) :
    Ideal.div (((((g : EReal) + half * ((g' : EReal) - g + 1)) - a) - half * ((a' : EReal) - a + 1))) ((a' : EReal) - a + 1) = shift a a' g g' := by
  obtain ⟨h, hh⟩ := half_real
  unfold shift
  refine congrArg (Ideal.div · _) ?_
  rw [hh, ← EReal.coe_one]
  simp only [← EReal.coe_sub, ← EReal.coe_add, ← EReal.coe_mul, EReal.coe_eq_coe_iff]
  ring

/-- One of three columns' four targets, by the place modulo four. -/
theorem target_place (t0 t1 t2 t3 : FVec Ideal S256x1 .f32) (i : Fin 256) (w : Fin 84) (q : Fin 4) (hq : q.val = w.val % 4) :
    k0_pay790 t0 t1 t2 t3 (ix2 i w) = if q = 0 then t0 (ix2 i 0) else if q = 1 then t1 (ix2 i 0) else if q = 2 then t2 (ix2 i 0) else t3 (ix2 i 0) := by
  unfold k0_pay790
  have hw := w.isLt
  have hq4 := q.isLt
  have e := mod_word (n := w.val) (d := 4) (by omega) (by norm_num) (by norm_num) (Scalar.cmpi .slt 4#32 0#32) (by decide)
    (IntOp.addi (IntOp.remsi .vector (BitVec.ofNat 32 w.val) 4#32) 4#32)
  rw [← hq] at e
  simp only [select_apply]
  rw [show ∀ x h, broadcastTo (α := BitVec 1) S256x84 x h (ix2 i w) = x (ix2 0 w) from fun x h => row_at x h i w,
    show ∀ x h, broadcastTo (α := BitVec 1) S256x84 x h (ix2 i w) = x (ix2 0 w) from fun x h => row_at x h i w,
    show ∀ x h, broadcastTo (α := BitVec 1) S256x84 x h (ix2 i w) = x (ix2 0 w) from fun x h => row_at x h i w]
  rw [show ∀ x h, broadcastTo (α := Ideal .f32) S256x84 x h (ix2 i w) = x (ix2 i 0) from fun x h => col_at x h i w,
    show ∀ x h, broadcastTo (α := Ideal .f32) S256x84 x h (ix2 i w) = x (ix2 i 0) from fun x h => col_at x h i w,
    show ∀ x h, broadcastTo (α := Ideal .f32) S256x84 x h (ix2 i w) = x (ix2 i 0) from fun x h => col_at x h i w,
    show ∀ x h, broadcastTo (α := Ideal .f32) S256x84 x h (ix2 i w) = x (ix2 i 0) from fun x h => col_at x h i w]
  simp only [cast_same]
  simp only [select_apply, andi_apply, xori_apply, addi_apply, cmpi_apply, remsi_apply, broadcast_apply,
    show Scalar.select (Scalar.cmpi .eq 4#32 0#32) 1#32 4#32 = 4#32 by decide]
  rw [show ∀ x h, broadcastTo (α := BitVec 1) S1x84 x h (ix2 0 w) = x (ix2 0 w) from fun x h =>
    broadcastTo_apply x h _ _ fun b => by fin_cases b <;> rfl]
  simp only [broadcast_apply]
  rw [show iota .tc S1x84 32 [1] iota_S1x84_d1_w32 (ix2 0 w) = BitVec.ofNat 32 w.val from numbers_row _ w]
  rw [show (IntOp.remsi ArithUnit.vector (BitVec.ofNat 32 w.val) 4#32) = (IntOp.remsi ArithUnit.vector (BitVec.ofNat 32 w.val) (BitVec.ofNat 32 4)) from rfl] at *
  rw [e]
  have e0 : IntOp.cmpi .eq (BitVec.ofNat 32 q.val) 0#32 = BitVec.ofBool (decide (q.val = 0)) := eq_word (by omega) (by norm_num)
  have e1 : IntOp.cmpi .eq (BitVec.ofNat 32 q.val) 1#32 = BitVec.ofBool (decide (q.val = 1)) := eq_word (by omega) (by norm_num)
  have e2 : IntOp.cmpi .eq (BitVec.ofNat 32 q.val) 2#32 = BitVec.ofBool (decide (q.val = 2)) := eq_word (by omega) (by norm_num)
  rw [e0, e1, e2, select_ofBool, select_ofBool, select_ofBool]
  simp only [decide_eq_true_eq, Fin.ext_iff]
  rfl

/-! ## Results -/

/-- The mask of the chosen boxes that count as foreground. -/
theorem front_at (m : FVec Ideal S256x1 .f32) (i : Fin 256) (x : EReal) (hm : m (ix2 i 0) = x) :
    k0_pay787 m (ix2 i 0) = BitVec.ofBool (decide (half ≤ x) && decide (i.val < 128)) := by
  unfold k0_pay787
  have hi := i.isLt
  simp only [andi_apply, cmpi_apply, cmpf_apply, broadcast_apply]
  rw [show iota .tc S256x1 32 [0] iota_S256x1_d0_w32 (ix2 i 0) = BitVec.ofNat 32 i.val from numbers_col _ i, hm,
    show IntOp.cmpi .slt (BitVec.ofNat 32 i.val) 128#32 = BitVec.ofBool (decide (i.val < 128)) from WordCmp.cmpi_slt_ofNat (by omega) (by norm_num)]
  exact WordCmp.andi_ofBool (decide (half ≤ x)) _

/-- The labels of the chosen boxes. -/
theorem kinds_at (m g : FVec Ideal S256x1 .f32) (i : Fin 256) (f : Bool) (k : Fin 21) (hm : k0_pay787 m (ix2 i 0) = BitVec.ofBool f)
    (hg : g (ix2 i 0) = (((k.val : ℕ) : ℝ) : EReal)) (l : Fin 21) :
    k0_pay788 m g (ix2 i l) = if l = (if f = true then k else 0) then (1 : EReal) else 0 := by
  unfold k0_pay788
  have hl := l.isLt
  simp only [select_apply]
  rw [show ∀ x h, broadcastTo (α := BitVec 1) S256x21 x h (ix2 i l) = x (ix2 i 0) from fun x h => col_at x h i l,
    show ∀ x h, broadcastTo (α := Ideal .f32) S256x21 x h (ix2 i l) = x (ix2 0 l) from fun x h => row_at x h i l]
  simp only [cast_same, sitofp_apply, extui_apply, cmpf_apply, broadcast_apply]
  rw [show ∀ x h, broadcastTo (α := Ideal .f32) S256x21 x h (ix2 i l) = x (ix2 i 0) from fun x h => col_at x h i l,
    show ∀ x h, broadcastTo (α := Ideal .f32) S256x21 x h (ix2 i l) = x (ix2 0 l) from fun x h => row_at x h i l]
  rw [sitofp_apply, show iota .tc S1x21 32 [1] iota_S1x21_d1_w32 (ix2 0 l) = BitVec.ofNat 32 l.val from numbers_row _ l, hm, hg, number_word (by omega),
    number_eq, show (Scalar.ofBits .f32 0x00000000#32 : Ideal .f32) = (((0 : ℕ) : ℝ) : EReal) from Ideal.ofBits_zero_f32.trans (by norm_num), number_eq,
    number_bit, number_bit, select_ofBool]
  cases f
  · simp only [Bool.false_eq_true, if_false, decide_eq_true_eq, Fin.ext_iff]
    rfl
  · simp only [if_true, decide_eq_true_eq, Fin.ext_iff]
    simp only [@eq_comm _ k.val]

/-- The word of a chosen box's label. -/
theorem kindWord_at (g : FVec Ideal S256x1 .f32) (k0 : IVec S256x1 1) (i : Fin 256) (f : Bool) (k : Fin 21) (hm : k0 (ix2 i 0) = BitVec.ofBool f)
    (hg : g (ix2 i 0) = (((k.val : ℕ) : ℝ) : EReal)) :
    k0_pay789 g k0 (ix2 i 0) = BitVec.ofNat 32 (if f = true then k else 0 : Fin 21).val := by
  unfold k0_pay789
  have hk := k.isLt
  simp only [select_apply, fptosi_apply, broadcast_apply]
  rw [hm, hg, word_number (by omega), select_ofBool]
  cases f <;> rfl

/-- The targets, set in the places of the chosen box's label. -/
theorem targets_at (k0 : IVec S256x1 1) (kw : IVec S256x1 32) (ts : FVec Ideal S256x84 .f32) (i : Fin 256) (w : Fin 84) (l k : Fin 21) (f : Bool)
    (hl : l.val = w.val / 4) (h0 : k0 (ix2 i 0) = BitVec.ofBool f) (hk : kw (ix2 i 0) = BitVec.ofNat 32 k.val) :
    k0_pay1 k0 kw (iota .tc S1x84 32 [1] iota_S1x84_d1_w32) ts 4#32 k0_pay791 k0_pay792 (ix2 i w) = if l = k ∧ f = true then ts (ix2 i w) else (0 : EReal) := by
  unfold k0_pay1 k0_pay791 k0_pay792
  have hw := w.isLt
  have hl' := l.isLt
  have hk' := k.isLt
  have e := floor_word (n := w.val) (d := 4) (by omega) (by norm_num) (by norm_num)
    (Scalar.subi (Scalar.extui (Scalar.cmpi .sgt 4#32 0#32)) (Scalar.extui (Scalar.cmpi .slt 4#32 0#32))) (by decide)
  rw [← hl] at e
  simp only [select_apply, andi_apply, cmpi_apply]
  rw [show ∀ x h, broadcastTo (α := BitVec 1) S256x84 x h (ix2 i w) = x (ix2 i 0) from fun x h => col_at x h i w,
    show ∀ x h, broadcastTo (α := BitVec 32) S256x84 x h (ix2 i w) = x (ix2 0 w) from fun x h => row_at x h i w,
    show ∀ x h, broadcastTo (α := BitVec 32) S256x84 x h (ix2 i w) = x (ix2 i 0) from fun x h => col_at x h i w]
  simp only [select_apply, andi_apply, cmpi_apply, subi_apply, extui_apply, remsi_apply, divsi_apply, broadcast_apply]
  rw [show iota .tc S1x84 32 [1] iota_S1x84_d1_w32 (ix2 0 w) = BitVec.ofNat 32 w.val from numbers_row _ w, h0, hk]
  refine (congrArg (fun z : BitVec 32 => Scalar.select (IntOp.andi (IntOp.cmpi .eq z (BitVec.ofNat 32 k.val)) (BitVec.ofBool f)) (ts (ix2 i w)) (Scalar.ofBits .f32 0x00000000#32 : Ideal .f32)) e).trans ?_
  rw [eq_word (by omega) (by omega), WordCmp.andi_ofBool, select_ofBool, show (Scalar.ofBits .f32 0x00000000#32 : Ideal .f32) = (0 : EReal) from Ideal.ofBits_zero_f32]
  simp only [Bool.and_eq_true, decide_eq_true_eq, Fin.ext_iff]

end Cert.Select
-- ==== Proof.Results.lean ====
/- The kernel's three results, entry by entry, in the reference's terms. -/
module

public import proofs.«01_k».proof.Proof.Selected
public import proofs.«01_k».proof.Proof.TailValues
public import Idealize.ShloMosaic.Lib.Pipeline.Value

@[expose] public section

noncomputable section

namespace Cert.Select

open Cert.KernelIdeal Cert.KernelIdeal.Gen Idealize.ShloMosaic Idealize.ShloMosaic.ValueIdx
open Cert.RefRead (box gt ov arg best pick place fg kind truth half shift scale target four_at)

/-- The offsets of a store over a whole buffer are nought. -/
theorem offsets_zero : (![0, 0] : Fin 2 → Nat) = fun _ => 0 := by
  funext a
  fin_cases a <;> rfl

variable (a0 : FVec Ideal Cert.ReferenceIdeal.S1x20000x4 .f32) (a1 : FVec Ideal Cert.ReferenceIdeal.S1x100x4 .f32)
variable (x0 : Vec Ideal S4x256x128 .f32) (x1 : Vec Ideal S100x4 .f32) (x2 : Vec Ideal S4x100 .f32) (x3 : Vec Ideal S21x100 .f32)
variable (c : Dev nD) (arg0 : Memref sig Kind.tc Space.vmem S4x256x128 EltTy.f32) (harg0 : arg0.IsWhole)
  (arg1 : Memref sig Kind.tc Space.smem S100x4 EltTy.f32) (harg1 : arg1.IsWhole)
  (arg2 : Memref sig Kind.tc Space.vmem S4x100 EltTy.f32) (harg2 : arg2.IsWhole)
  (arg3 : Memref sig Kind.tc Space.vmem S21x100 EltTy.f32) (harg3 : arg3.IsWhole)
  (arg4 : Memref sig Kind.tc Space.vmem S256x4 EltTy.f32) (harg4 : arg4.IsWhole)
  (arg5 : Memref sig Kind.tc Space.vmem S256x21 EltTy.f32) (harg5 : arg5.IsWhole)
  (arg6 : Memref sig Kind.tc Space.vmem S256x84 EltTy.f32) (harg6 : arg6.IsWhole)

/-! ## The chosen boxes -/

/-- The kept positions. -/
theorem Handed.position (H : Handed a0 a1 x0 x1) (i : Fin 256) :
    kernelRun0_A.sl.r_256 (F := Ideal) c arg0 harg0 arg1 harg1 arg2 harg2 arg3 harg3 arg4 harg4 arg5 harg5 arg6 harg6 x0 x1 (ix2 i 0) =
      BitVec.ofNat 32 (128 * ((pick a0 a1 i).val / 128) + (pick a0 a1 i).val % 128) := by
  have hn := (pick a0 a1 i).isLt
  have ha := (arg a0 a1 (pick a0 a1 i)).isLt
  unfold kernelRun0_A.sl.r_256
  refine (quotient_at _ _ _ _ _ _ (kernelRun0_A.sl.r_255 (F := Ideal) c arg0 harg0 arg1 harg1 arg2 harg2 arg3 harg3 arg4 harg4 arg5 harg5 arg6 harg6 x0 x1)
    ?_ i ((pick a0 a1 i).val * 128 + (arg a0 a1 (pick a0 a1 i)).val) (by omega)
    (H.kept a0 a1 x0 x1 c arg0 harg0 arg1 harg1 arg2 harg2 arg3 harg3 arg4 harg4 arg5 harg5 arg6 harg6 i).2).trans ?_
  · sl_kernel_rfl
  · exact congrArg (BitVec.ofNat 32) (by omega)

/-- A corner of a chosen box, gathered from its plane. -/
theorem Handed.corner (H : Handed a0 a1 x0 x1) (i : Fin 256) (q : Fin 4) (t : IVec S256x1 32)
    (ht : t (ix2 i 0) = BitVec.ofNat 32 (128 * ((pick a0 a1 i).val / 128) + (pick a0 a1 i).val % 128)) :
    gathered (rowMask t) (k0_pay760 t) (plane q x0) (ix2 i 0) = box a0 a1 (pick a0 a1 i) q := by
  have hn := (pick a0 a1 i).isLt
  let r : Fin 256 := ⟨(pick a0 a1 i).val / 128, by omega⟩
  let l : Fin 128 := ⟨(pick a0 a1 i).val % 128, by omega⟩
  have e : plane q x0 (ix2 r l) = box a0 a1 (pick a0 a1 i) q := by
    have h : 128 * r.val + l.val < 20100 := by
      show 128 * ((pick a0 a1 i).val / 128) + (pick a0 a1 i).val % 128 < 20100
      omega
    refine (congrFun (H.boxes r l h) q).trans (congrArg (fun n => box a0 a1 n q) (Fin.ext ?_))
    show 128 * ((pick a0 a1 i).val / 128) + (pick a0 a1 i).val % 128 = _
    omega
  obtain ⟨z, hz, -, -⟩ := H.isBox (pick a0 a1 i)
  exact (gathered_at _ _ _ i r l (rowMask_at t i r l ht) (colMask_at t i r l ht) (z q) (e.trans (hz q))).trans e

/-- The four corners, as the kernel names them. -/
theorem Handed.corners (H : Handed a0 a1 x0 x1) (i : Fin 256) :
    kernelRun0_A.sl.r_265 (F := Ideal) c arg0 harg0 arg1 harg1 arg2 harg2 arg3 harg3 arg4 harg4 arg5 harg5 arg6 harg6 x0 x1 (ix2 i 0) = box a0 a1 (pick a0 a1 i) 0 ∧
      kernelRun0_A.sl.r_266 (F := Ideal) c arg0 harg0 arg1 harg1 arg2 harg2 arg3 harg3 arg4 harg4 arg5 harg5 arg6 harg6 x0 x1 (ix2 i 0) = box a0 a1 (pick a0 a1 i) 1 ∧
      kernelRun0_A.sl.r_267 (F := Ideal) c arg0 harg0 arg1 harg1 arg2 harg2 arg3 harg3 arg4 harg4 arg5 harg5 arg6 harg6 x0 x1 (ix2 i 0) = box a0 a1 (pick a0 a1 i) 2 ∧
      kernelRun0_A.sl.r_270 (F := Ideal) c arg0 harg0 arg1 harg1 arg2 harg2 arg3 harg3 arg4 harg4 arg5 harg5 arg6 harg6 x0 x1 (ix2 i 0) = box a0 a1 (pick a0 a1 i) 3 := by
  have ht := H.position a0 a1 x0 x1 c arg0 harg0 arg1 harg1 arg2 harg2 arg3 harg3 arg4 harg4 arg5 harg5 arg6 harg6 i
  refine ⟨?_, ?_, ?_, ?_⟩
  · rw [← H.corner a0 a1 x0 x1 i 0 _ ht, ← word_r c arg0 harg0 x0]
    sl_kernel_rfl
  · rw [← H.corner a0 a1 x0 x1 i 1 _ ht, ← word_r_1 c arg0 harg0 x0]
    sl_kernel_rfl
  · rw [← H.corner a0 a1 x0 x1 i 2 _ ht, ← word_r_2 c arg0 harg0 x0]
    sl_kernel_rfl
  · rw [← H.corner a0 a1 x0 x1 i 3 _ ht, ← word_r_3 c arg0 harg0 x0]
    sl_kernel_rfl

/-- The kernel's first result. -/
theorem Handed.out4 (H : Handed a0 a1 x0 x1) (i : Fin 256) (q : Fin 4) :
    out0_A_4 (F := Ideal) c arg0 harg0 arg1 harg1 arg2 harg2 arg3 harg3 arg4 harg4 arg5 harg5 arg6 harg6 x0 x1 x2 x3 (ix2 i q) = box a0 a1 (pick a0 a1 i) q := by
  obtain ⟨h0, h1, h2, h3⟩ := H.corners a0 a1 x0 x1 c arg0 harg0 arg1 harg1 arg2 harg2 arg3 harg3 arg4 harg4 arg5 harg5 arg6 harg6 i
  unfold out0_A_4 kernelRun0_A
  rw [View.read_writes_junk_eq_canon]
  refine (congrFun (View.canon_unit_zero (S := S256x4) offsets_zero _ _) (ix2 i q)).trans ?_
  exact four_at _ _ _ _ concatenates_S256x1_S256x1_S256x1_S256x1_S256x4_d1 i (box a0 a1 (pick a0 a1 i)) h0 h1 h2 h3 q

/-! ## The annotation of a chosen box -/

/-- The kernel's second and fourth arguments: the annotated boxes' corners in rows, and the labels. -/
structure Labelled (a1 : FVec Ideal Cert.ReferenceIdeal.S1x100x4 .f32) (cls : Fin 100 → Fin 21) (x2 : Vec Ideal S4x100 .f32) (x3 : Vec Ideal S21x100 .f32) : Prop where
  corners : ∀ q j, x2 (ix2 q j) = gt a1 j q
  labels : ∀ (l : Fin 21) (j : Fin 100), x3 (ix2 l j) = if l = cls j then (1 : EReal) else 0

variable (cls : Fin 100 → Fin 21)

/-- A row of the corners, as the kernel loads it. -/
theorem load_row (q : Fin 4) (inb) (j : Fin 100) :
    (View.readAt (Elt Ideal) arg2.view (Rect.unit (s := S4x100) ![q.val, 0] S1x100.size inb).toLoadRect (harg2.unread x2) : FVec Ideal S1x100 .f32) (ix2 0 j) = x2 (ix2 q j) := by
  refine (harg2.readAt_unread x2 _ _).trans (congrArg x2 (funext fun a => ?_))
  fin_cases a <;> refine Fin.ext ?_
  · exact Nat.add_zero _
  · exact (Nat.zero_add _).trans (Nat.one_mul _)

/-- The labels, as the kernel loads them. -/
theorem load_labels (inb) : (View.readAt (Elt Ideal) arg3.view (Rect.unit (s := S21x100) ![0, 0] S21x100.size inb).toLoadRect (harg3.unread x3) : FVec Ideal S21x100 .f32) = x3 := by
  rw [View.readAt_eq_ld, harg3.read_unread]
  exact View.ld_unit_zero offsets_zero _ _

/-- The mask of the annotation a chosen box overlaps most. -/
theorem Handed.named (H : Handed a0 a1 x0 x1) (i : Fin 256) (j : Fin 100) :
    kernelRun0_A.sl.r_271 (F := Ideal) c arg0 harg0 arg1 harg1 arg2 harg2 arg3 harg3 arg4 harg4 arg5 harg5 arg6 harg6 x0 x1 (ix2 i j) =
      BitVec.ofBool (decide ((arg a0 a1 (pick a0 a1 i)).val = j.val)) := by
  have hn := (pick a0 a1 i).isLt
  exact named_at _ i (pick a0 a1 i).val (by omega) (arg a0 a1 (pick a0 a1 i))
    (H.kept a0 a1 x0 x1 c arg0 harg0 arg1 harg1 arg2 harg2 arg3 harg3 arg4 harg4 arg5 harg5 arg6 harg6 i).2 j

/-- The corners of that annotation, as the kernel names them. -/
theorem Handed.truths (H : Handed a0 a1 x0 x1) (L : Labelled a1 cls x2 x3) (i : Fin 256) :
    kernelRun0_A.sl.r_272 (F := Ideal) c arg0 harg0 arg1 harg1 arg2 harg2 arg3 harg3 arg4 harg4 arg5 harg5 arg6 harg6 x0 x1 x2 (ix2 i 0) = truth a0 a1 i 0 ∧
      kernelRun0_A.sl.r_273 (F := Ideal) c arg0 harg0 arg1 harg1 arg2 harg2 arg3 harg3 arg4 harg4 arg5 harg5 arg6 harg6 x0 x1 x2 (ix2 i 0) = truth a0 a1 i 1 ∧
      kernelRun0_A.sl.r_274 (F := Ideal) c arg0 harg0 arg1 harg1 arg2 harg2 arg3 harg3 arg4 harg4 arg5 harg5 arg6 harg6 x0 x1 x2 (ix2 i 0) = truth a0 a1 i 2 ∧
      kernelRun0_A.sl.r_275 (F := Ideal) c arg0 harg0 arg1 harg1 arg2 harg2 arg3 harg3 arg4 harg4 arg5 harg5 arg6 harg6 x0 x1 x2 (ix2 i 0) = truth a0 a1 i 3 := by
  have hk := H.named a0 a1 x0 x1 c arg0 harg0 arg1 harg1 arg2 harg2 arg3 harg3 arg4 harg4 arg5 harg5 arg6 harg6 i
  have e : ∀ (q : Fin 4) (inb), k0_pay773 _ (View.readAt (Elt Ideal) arg2.view (Rect.unit (s := S4x100) ![q.val, 0] S1x100.size inb).toLoadRect (harg2.unread x2)) (ix2 i 0) = truth a0 a1 i q :=
    fun q inb => (named_entry _ _ i _ hk).trans ((load_row x2 arg2 harg2 q inb _).trans (L.corners q _))
  exact ⟨e 0 _, e 1 _, e 2 _, e 3 _⟩

/-- The label of that annotation, as the kernel names it. -/
theorem Handed.label (H : Handed a0 a1 x0 x1) (L : Labelled a1 cls x2 x3) (i : Fin 256) :
    kernelRun0_A.sl.r_276 (F := Ideal) c arg0 harg0 arg1 harg1 arg2 harg2 arg3 harg3 arg4 harg4 arg5 harg5 arg6 harg6 x0 x1 x3 (ix2 i 0) =
      ((((cls (arg a0 a1 (pick a0 a1 i))).val : ℕ) : ℝ) : EReal) := by
  refine named_label _ _ cls i _ (fun l j => ?_) (H.named a0 a1 x0 x1 c arg0 harg0 arg1 harg1 arg2 harg2 arg3 harg3 arg4 harg4 arg5 harg5 arg6 harg6 i)
  rw [load_labels]
  exact L.labels l j

/-- The mask of the foreground, as the kernel computes it. -/
theorem Handed.front (H : Handed a0 a1 x0 x1) (i : Fin 256) :
    k0_pay787 (kernelRun0_A.sl.r_254 (F := Ideal) c arg0 harg0 arg1 harg1 arg2 harg2 arg3 harg3 arg4 harg4 arg5 harg5 arg6 harg6 x0 x1) (ix2 i 0) = BitVec.ofBool (fg a0 a1 i) :=
  front_at _ i _ (H.kept a0 a1 x0 x1 c arg0 harg0 arg1 harg1 arg2 harg2 arg3 harg3 arg4 harg4 arg5 harg5 arg6 harg6 i).1

/-- The kernel's second result. -/
theorem Handed.out5 (H : Handed a0 a1 x0 x1) (L : Labelled a1 cls x2 x3) (i : Fin 256) (l : Fin 21) :
    out0_A_5 (F := Ideal) c arg0 harg0 arg1 harg1 arg2 harg2 arg3 harg3 arg4 harg4 arg5 harg5 arg6 harg6 x0 x1 x2 x3 (ix2 i l) =
      if l = kind a0 a1 cls i then (1 : EReal) else 0 := by
  unfold out0_A_5 kernelRun0_A
  rw [View.read_writes_junk_eq_canon]
  refine (congrFun (View.canon_unit_zero (S := S256x21) offsets_zero _ _) (ix2 i l)).trans ?_
  exact kinds_at _ _ i (fg a0 a1 i) _ (H.front a0 a1 x0 x1 c arg0 harg0 arg1 harg1 arg2 harg2 arg3 harg3 arg4 harg4 arg5 harg5 arg6 harg6 i)
    (H.label a0 a1 x0 x1 x2 x3 c arg0 harg0 arg1 harg1 arg2 harg2 arg3 harg3 arg4 harg4 arg5 harg5 arg6 harg6 cls L i) l

/-- The four targets of a chosen box, as the kernel computes them from its corners and its annotation's. -/
theorem targets_of (s0 s1 s2 s3 g0 g1 g2 g3 : FVec Ideal S256x1 .f32) (i : Fin 256) (a g : Fin 4 → EReal) (ha : IsBox a) (hg : IsBox g)
    (h0 : s0 (ix2 i 0) = a 0) (h1 : s1 (ix2 i 0) = a 1) (h2 : s2 (ix2 i 0) = a 2) (h3 : s3 (ix2 i 0) = a 3)
    (k0 : g0 (ix2 i 0) = g 0) (k1 : g1 (ix2 i 0) = g 1) (k2 : g2 (ix2 i 0) = g 2) (k3 : g3 (ix2 i 0) = g 3) (w : Fin 84) (q : Fin 4) (hq : q.val = w.val % 4) :
    k0_pay790 (k0_pay783 s0 g0 g2 (k0_pay777 s0 s2)) (k0_pay784 s1 g1 g3 (k0_pay778 s1 s3) k0_pay779) (k0_pay785 g0 g2 (k0_pay777 s0 s2))
      (k0_pay786 g1 g3 (k0_pay778 s1 s3) k0_pay779) (ix2 i w) = target a g q := by
  obtain ⟨x, hx, -, -⟩ := ha
  obtain ⟨y, hy, -, -⟩ := hg
  have one : (Scalar.ofBits .f32 0x3F800000#32 : Ideal .f32) = (1 : EReal) := one_word
  have e0 : k0_pay783 s0 g0 g2 (k0_pay777 s0 s2) (ix2 i 0) = shift (a 0) (a 2) (g 0) (g 2) := by
    rw [hx, hx, hy, hy, ← shift_order (x 0) (x 2) (y 0) (y 2), ← hx, ← hx, ← hy, ← hy, ← h0, ← h2, ← k0, ← k2, ← one]
    rfl
  have e1 : k0_pay784 s1 g1 g3 (k0_pay778 s1 s3) k0_pay779 (ix2 i 0) = shift (a 1) (a 3) (g 1) (g 3) := by
    rw [hx, hx, hy, hy, ← shift_order (x 1) (x 3) (y 1) (y 3), ← hx, ← hx, ← hy, ← hy, ← h1, ← h3, ← k1, ← k3, ← one]
    rfl
  have e2 : k0_pay785 g0 g2 (k0_pay777 s0 s2) (ix2 i 0) = scale (a 0) (a 2) (g 0) (g 2) := by
    unfold scale
    rw [← h0, ← h2, ← k0, ← k2, ← one]
    rfl
  have e3 : k0_pay786 g1 g3 (k0_pay778 s1 s3) k0_pay779 (ix2 i 0) = scale (a 1) (a 3) (g 1) (g 3) := by
    unfold scale
    rw [← h1, ← h3, ← k1, ← k3, ← one]
    rfl
  rw [target_place _ _ _ _ i w q hq, e0, e1, e2, e3]
  rfl

/-- The kernel's third result. -/
theorem Handed.out6 (H : Handed a0 a1 x0 x1) (L : Labelled a1 cls x2 x3) (i : Fin 256) (w : Fin 84) (l : Fin 21) (q : Fin 4)
    (hl : l.val = w.val / 4) (hq : q.val = w.val % 4) :
    out0_A_6 (F := Ideal) c arg0 harg0 arg1 harg1 arg2 harg2 arg3 harg3 arg4 harg4 arg5 harg5 arg6 harg6 x0 x1 x2 x3 (ix2 i w) =
      if l = kind a0 a1 cls i ∧ fg a0 a1 i = true then target (box a0 a1 (pick a0 a1 i)) (truth a0 a1 i) q else (0 : EReal) := by
  have hf := H.front a0 a1 x0 x1 c arg0 harg0 arg1 harg1 arg2 harg2 arg3 harg3 arg4 harg4 arg5 harg5 arg6 harg6 i
  obtain ⟨h0, h1, h2, h3⟩ := H.corners a0 a1 x0 x1 c arg0 harg0 arg1 harg1 arg2 harg2 arg3 harg3 arg4 harg4 arg5 harg5 arg6 harg6 i
  obtain ⟨k0, k1, k2, k3⟩ := H.truths a0 a1 x0 x1 x2 x3 c arg0 harg0 arg1 harg1 arg2 harg2 arg3 harg3 arg4 harg4 arg5 harg5 arg6 harg6 cls L i
  have hg : IsBox (truth a0 a1 i) := H.isGiven _
  rw [← targets_of _ _ _ _ _ _ _ _ i _ _ (H.isBox _) hg h0 h1 h2 h3 k0 k1 k2 k3 w q hq]
  unfold out0_A_6 kernelRun0_A
  rw [View.read_writes_junk_eq_canon]
  refine (congrFun (View.canon_unit_zero (S := S256x84) offsets_zero _ _) (ix2 i w)).trans ?_
  exact targets_at _ _ _ i w l (kind a0 a1 cls i) (fg a0 a1 i) hl hf
    (kindWord_at _ _ i (fg a0 a1 i) _ hf (H.label a0 a1 x0 x1 x2 x3 c arg0 harg0 arg1 harg1 arg2 harg2 arg3 harg3 arg4 harg4 arg5 harg5 arg6 harg6 cls L i))

end Cert.Select
-- ==== Proof.Handed.lean ====
/- What the kernel finds in its four operands: the boxes chunk by chunk, the ground-truth boxes, their corners and their labels. -/
module

public import proofs.«01_k».proof.Proof.Results
public import Idealize.ShloMosaic.Lib.StableHlo.RunRead
public import Idealize.ShloMosaic.Lib.ValueLayout

@[expose] public section

noncomputable section

namespace Cert.Select

open Cert.KernelIdeal Cert.KernelIdeal.Gen Idealize.ShloMosaic Idealize.ShloMosaic.TcCoe Idealize.ShloMosaic.ValueIdx
open Idealize.ShloMosaic.StableHlo
open Cert.ReferenceIdeal.Read (val_main_v2 val_main_v3 val_main_v4)
open Cert.RefRead (box gt)

variable (m : (ℓ : Loc nD τ sig) → Buf (Elt Ideal) ℓ)

/-- The proposals, as launched. -/
abbrev given0 (c : Dev nD) : FVec Ideal Cert.ReferenceIdeal.S1x20000x4 .f32 := m ((c : Thread nD τ).loc main_arg0)
/-- The ground-truth boxes, as launched. -/
abbrev given1 (c : Dev nD) : FVec Ideal Cert.ReferenceIdeal.S1x100x4 .f32 := m ((c : Thread nD τ).loc main_arg1)
/-- The labels, as launched. -/
abbrev given2 (c : Dev nD) : FVec Ideal Cert.ReferenceIdeal.S1x100x21 .f32 := m ((c : Thread nD τ).loc main_arg2)

/-- The proposals with the ground-truth boxes after them. -/
def joined (x : FVec Ideal S20000x4 .f32) (y : FVec Ideal S100x4 .f32) : FVec Ideal S20100x4 .f32 :=
  concatenate S20100x4 0 [⟨S20000x4, x⟩, ⟨S100x4, y⟩] concatenates_S20000x4_S100x4_S20100x4_d0

/-- All boxes with the kernel's far-off boxes after them. -/
def padded (x : FVec Ideal S20100x4 .f32) (y : FVec Ideal S12668x4 .f32) : FVec Ideal S32768x4 .f32 :=
  concatenate S32768x4 0 [⟨S20100x4, x⟩, ⟨S12668x4, y⟩] concatenates_S20100x4_S12668x4_S32768x4_d0

/-- A box far from every other. -/
def farOff : FVec Ideal S12668x4 .f32 := broadcastInDim S12668x4 ![] bcast_S_S12668x4 (constant S_ .f32 0xC9742400#32)

/-- The first operand: the boxes' coordinates, in chunks. -/
theorem found0 (c : Dev nD) :
    V m c main_call0_v6 = shapeCast S4x256x128
      (transpose S4x32768 [1, 0] (padded (val_main_v2 (F := Ideal) (given0 m c) (given1 m c)) farOff) transposes_S32768x4_S4x32768_1_0)
      shapeCasts_S4x32768_S4x256x128 := by
  unfold V
  after_reads_simp
  show shapeCast S4x256x128
      (transpose S4x32768 [1, 0]
        (padded (upto hostOps0 (fun b => m (c, b)) 5 (Proc.tc.devRef main_call0_v2)) (upto hostOps0 (fun b => m (c, b)) 5 (Proc.tc.devRef main_call0_v3)))
        transposes_S32768x4_S4x32768_1_0)
      shapeCasts_S4x32768_S4x256x128 = _
  after_reads_simp
  show shapeCast S4x256x128
      (transpose S4x32768 [1, 0]
        (padded
          (joined (upto hostOps0 (fun b => m (c, b)) 2 (Proc.tc.devRef main_call0_v0)) (upto hostOps0 (fun b => m (c, b)) 2 (Proc.tc.devRef main_call0_v1)))
          farOff)
        transposes_S32768x4_S4x32768_1_0)
      shapeCasts_S4x32768_S4x256x128 = _
  after_reads_simp
  rfl

/-- The second operand: the ground-truth boxes. -/
theorem found1 (c : Dev nD) : V m c main_call0_v7 = val_main_v3 (given1 m c) := by
  unfold V
  after_reads_simp
  rfl

/-- The third operand: the ground-truth boxes, coordinate by coordinate. -/
theorem found2 (c : Dev nD) :
    V m c main_call0_v8 = transpose S4x100 [1, 0] (val_main_v3 (given1 m c)) transposes_S100x4_S4x100_1_0 := by
  unfold V
  after_reads_simp
  rfl

/-- The fourth operand: the labels, class by class. -/
theorem found3 (c : Dev nD) :
    V m c main_call0_v10 = transpose S21x100 [1, 0] (val_main_v4 (given2 m c)) transposes_S100x21_S21x100_1_0 := by
  unfold V
  after_reads_simp
  rfl

/-- A place of the block of a window that is its whole array is the same place of the array. -/
theorem whole_place {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin Pipeline.Grid.none.N) (j : s.Idx) :
    ((Pipeline.Window.whole arr isOut sync stage sem harr hstage).blk t).view.emb j = arr.view.emb j := by
  refine congrArg arr.view.emb ?_
  funext a
  apply Fin.ext
  show 0 * _ + 1 * (j a).val = (j a).val
  omega

/-- The first operand's block is the operand. -/
theorem block0 (c : Dev nD) (t : Fin cfg0.N) (j : S4x256x128.Idx) : iblk m c 0 t j = V m c main_call0_v6 j :=
  congrArg (V m c main_call0_v6) (whole_place (Memref.whole main_call0_v6) false false (stage0_0 0) (sem0_0 0) (Memref.isWhole_whole _) (hstage0_0 0) t j)

/-- The second operand's block is the operand. -/
theorem block1 (c : Dev nD) (t : Fin cfg0.N) (j : S100x4.Idx) : iblk m c 1 t j = V m c main_call0_v7 j :=
  congrArg (V m c main_call0_v7) (whole_place (Memref.whole main_call0_v7) false false (stage0_1 0) (sem0_1 0) (Memref.isWhole_whole _) (hstage0_1 0) t j)

/-- The third operand's block is the operand. -/
theorem block2 (c : Dev nD) (t : Fin cfg0.N) (j : S4x100.Idx) : iblk m c 2 t j = V m c main_call0_v8 j :=
  congrArg (V m c main_call0_v8) (whole_place (Memref.whole main_call0_v8) false false (stage0_2 0) (sem0_2 0) (Memref.isWhole_whole _) (hstage0_2 0) t j)

/-- The fourth operand's block is the operand. -/
theorem block3 (c : Dev nD) (t : Fin cfg0.N) (j : S21x100.Idx) : iblk m c 3 t j = V m c main_call0_v10 j :=
  congrArg (V m c main_call0_v10) (whole_place (Memref.whole main_call0_v10) false false (stage0_3 0) (sem0_3 0) (Memref.isWhole_whole _) (hstage0_3 0) t j)

/-- The first operand at a chunk's place is a coordinate of the box there. -/
theorem chunk_box (c : Dev nD) (t : Fin cfg0.N) (i : Fin 256) (l : Fin 128) (h : 128 * i.val + l.val < 20100) :
    boxAt (iblk m c 0 t) i l = box (given0 m c) (given1 m c) ⟨128 * i.val + l.val, h⟩ := by
  funext q
  refine (block0 m c t (ix3 q i l)).trans ?_
  rw [found0]
  refine (shapeCast_apply _ shapeCasts_S4x32768_S4x256x128 (ix3 q i l) (ix2 q ⟨128 * i.val + l.val, by omega⟩) ?_).trans ?_
  · rw [Shape.rowMajor_val_two, Shape.rowMajor_val_three]
    show q.val * 32768 + (128 * i.val + l.val) = (q.val * 256 + i.val) * 128 + l.val
    omega
  refine (transpose_ix2_apply (a := 32768) (b := 4) _ transposes_S32768x4_S4x32768_1_0 q ⟨128 * i.val + l.val, by omega⟩).trans ?_
  exact concatenate_pair_apply_left (t := S32768x4) (s₁ := S20100x4) (s₂ := S12668x4) 0 _ _ concatenates_S20100x4_S12668x4_S32768x4_d0 _ rfl
    (ix2 ⟨128 * i.val + l.val, h⟩ q) fun b => match b with | ⟨0, _⟩ => rfl | ⟨1, _⟩ => rfl

/-- The operands are the boxes and the ground-truth boxes. -/
theorem handed (c : Dev nD) (t : Fin cfg0.N) (hb : ∀ n, IsBox (box (given0 m c) (given1 m c) n)) (hg : ∀ j, IsBox (gt (given1 m c) j)) :
    Handed (given0 m c) (given1 m c) (iblk m c 0 t) (iblk m c 1 t) where
  boxes := chunk_box m c t
  given j q := (block1 m c t (ix2 j q)).trans (congrFun (found1 m c) (ix2 j q))
  isBox := hb
  isGiven := hg

/-- The other operands are the ground-truth boxes' corners and their labels. -/
theorem labelled (c : Dev nD) (t : Fin cfg0.N) (cls : Fin 100 → Fin 21)
    (hcls : ∀ j l, val_main_v4 (F := Ideal) (given2 m c) (ix2 j l) = if l = cls j then (1 : EReal) else 0) :
    Labelled (given1 m c) cls (iblk m c 2 t) (iblk m c 3 t) where
  corners q j := by
    refine (block2 m c t (ix2 q j)).trans ?_
    rw [found2]
    exact transpose_ix2_apply (a := 100) (b := 4) _ transposes_S100x4_S4x100_1_0 q j
  labels l j := by
    refine (block3 m c t (ix2 l j)).trans ?_
    rw [found3]
    exact (transpose_ix2_apply (a := 100) (b := 21) _ transposes_S100x21_S21x100_1_0 l j).trans (hcls j l)

end Cert.Select

end
-- ==== Proof.Arrays.lean ====
/- The kernel's three result arrays, and the reference's: the same. -/
module

public import proofs.«01_k».proof.Proof.Handed
public import proofs.«01_k».proof.Proof.RefTargets
public import proofs.«01_k».proof.Proof.Gen.KernelIdeal.Value

@[expose] public section

noncomputable section

namespace Cert.Select

open Cert.KernelIdeal Cert.KernelIdeal.Gen Cert.KernelIdeal.Value Idealize.ShloMosaic Idealize.ShloMosaic.TcCoe Idealize.ShloMosaic.ValueIdx
open Cert.ReferenceIdeal.Read (val_main_v4 val_main_v119 val_main_v139 val_main_v225)
open Cert.RefRead (box gt pick fg truth kind target v119_at labels_at v225_at)

variable (m : (ℓ : Loc nD τ sig) → Buf (Elt Ideal) ℓ) (c : Dev nD)

/-- The one place of the grid. -/
abbrev only : Fin cfg0.N := ⟨0, by decide⟩

/-- An entry of the first result array is the entry that the body leaves. -/
theorem array4 (j : S256x4.Idx) :
    (dats m 0 c).arrAt 4 cfg0.N j =
      out0_A_4 c (ms0_0 only) (hs0_0 only) (ms0_1 only) (hs0_1 only) (ms0_2 only) (hs0_2 only) (ms0_3 only) (hs0_3 only) (ms0_4 only) (hs0_4 only)
        (ms0_5 only) (hs0_5 only) (ms0_6 only) (hs0_6 only) (iblk m c 0 only) (iblk m c 1 only) (iblk m c 2 only) (iblk m c 3 only) j := by
  have h := congrFun ((blocks4 m c only (flush0_4 only)).trans (flushed4_A m c only)) j
  refine Eq.trans (congrArg ((dats m 0 c).arrAt 4 cfg0.N) ?_) h
  exact (whole_place (Memref.whole main_v0_0) true false (stage0_4 0) (sem0_4 0) (Memref.isWhole_whole _) (hstage0_4 0) only j).symm

/-- An entry of the second result array is the entry that the body leaves. -/
theorem array5 (j : S256x21.Idx) :
    (dats m 0 c).arrAt 5 cfg0.N j =
      out0_A_5 c (ms0_0 only) (hs0_0 only) (ms0_1 only) (hs0_1 only) (ms0_2 only) (hs0_2 only) (ms0_3 only) (hs0_3 only) (ms0_4 only) (hs0_4 only)
        (ms0_5 only) (hs0_5 only) (ms0_6 only) (hs0_6 only) (iblk m c 0 only) (iblk m c 1 only) (iblk m c 2 only) (iblk m c 3 only) j := by
  have h := congrFun ((blocks5 m c only (flush0_5 only)).trans (flushed5_A m c only)) j
  refine Eq.trans (congrArg ((dats m 0 c).arrAt 5 cfg0.N) ?_) h
  exact (whole_place (Memref.whole main_v0_1) true false (stage0_5 0) (sem0_5 0) (Memref.isWhole_whole _) (hstage0_5 0) only j).symm

/-- An entry of the third result array is the entry that the body leaves. -/
theorem array6 (j : S256x84.Idx) :
    (dats m 0 c).arrAt 6 cfg0.N j =
      out0_A_6 c (ms0_0 only) (hs0_0 only) (ms0_1 only) (hs0_1 only) (ms0_2 only) (hs0_2 only) (ms0_3 only) (hs0_3 only) (ms0_4 only) (hs0_4 only)
        (ms0_5 only) (hs0_5 only) (ms0_6 only) (hs0_6 only) (iblk m c 0 only) (iblk m c 1 only) (iblk m c 2 only) (iblk m c 3 only) j := by
  have h := congrFun ((blocks6 m c only (flush0_6 only)).trans (flushed6_A m c only)) j
  refine Eq.trans (congrArg ((dats m 0 c).arrAt 6 cfg0.N) ?_) h
  exact (whole_place (Memref.whole main_v0_2) true false (stage0_6 0) (sem0_6 0) (Memref.isWhole_whole _) (hstage0_6 0) only j).symm

/-- What the launched arrays must be: boxes, and one label for each ground-truth box. -/
structure Launched (cls : Fin 100 → Fin 21) : Prop where
  boxes : ∀ n, IsBox (box (given0 m c) (given1 m c) n)
  truths : ∀ j, IsBox (gt (given1 m c) j)
  labels : ∀ j l, val_main_v4 (F := Ideal) (given2 m c) (ix2 j l) = if l = cls j then (1 : EReal) else 0

variable (cls : Fin 100 → Fin 21)

/-- The first result: the chosen boxes. -/
theorem result4 (L : Launched m c cls) : (dats m 0 c).arrAt 4 cfg0.N = val_main_v119 (F := Ideal) (given0 m c) (given1 m c) := by
  funext j
  obtain ⟨i, q, rfl⟩ : ∃ (i : Fin 256) (q : Fin 4), j = ix2 i q := ⟨j 0, j 1, eq_ix2 j⟩
  refine (array4 m c (ix2 i q)).trans (((handed m c only L.boxes L.truths).out4 (given0 m c) (given1 m c) _ _ _ _ c _ _ _ _ _ _ _ _ _ _ _ _ _ _ i q).trans ?_)
  exact (v119_at (given0 m c) (given1 m c) i q).symm

/-- The second result: the chosen boxes' labels. -/
theorem result5 (L : Launched m c cls) :
    (dats m 0 c).arrAt 5 cfg0.N = val_main_v139 (F := Ideal) (given0 m c) (given1 m c) (given2 m c) := by
  funext j
  obtain ⟨i, l, rfl⟩ : ∃ (i : Fin 256) (l : Fin 21), j = ix2 i l := ⟨j 0, j 1, eq_ix2 j⟩
  refine (array5 m c (ix2 i l)).trans (((handed m c only L.boxes L.truths).out5 (given0 m c) (given1 m c) _ _ _ _ c _ _ _ _ _ _ _ _ _ _ _ _ _ _
    cls (labelled m c only cls L.labels) i l).trans ?_)
  exact (labels_at (given0 m c) (given1 m c) (given2 m c) cls L.labels i l).symm

/-- The third result: the chosen boxes' regression targets, each at its label. -/
theorem result6 (L : Launched m c cls) :
    (dats m 0 c).arrAt 6 cfg0.N = val_main_v225 (F := Ideal) (given0 m c) (given1 m c) (given2 m c) := by
  funext j
  obtain ⟨i, w, rfl⟩ : ∃ (i : Fin 256) (w : Fin 84), j = ix2 i w := ⟨j 0, j 1, eq_ix2 j⟩
  have hw := w.isLt
  have hl : (⟨w.val / 4, by omega⟩ : Fin 21).val = w.val / 4 := rfl
  have hq : (⟨w.val % 4, by omega⟩ : Fin 4).val = w.val % 4 := rfl
  refine (array6 m c (ix2 i w)).trans (((handed m c only L.boxes L.truths).out6 (given0 m c) (given1 m c) _ _ _ _ c _ _ _ _ _ _ _ _ _ _ _ _ _ _
    cls (labelled m c only cls L.labels) i w _ _ hl hq).trans ?_)
  exact (v225_at (given0 m c) (given1 m c) (given2 m c) cls L.labels i w _ _ hl hq).symm

end Cert.Select

end
-- ==== Proof.Precondition.lean ====
/- The precondition read: every proposal and every ground-truth box is a box of real corners, and every ground-truth box has one label. -/
module

public import proofs.«01_k».proof.Pre_boxes_and_labels
public import proofs.«01_k».proof.Proof.RefOverlaps
public import proofs.«01_k».proof.Proof.Overlap
public import Idealize.ShloMosaic.Lib.Pointwise.Reduce
public import Idealize.ShloMosaic.Lib.Pipeline.Value
public import Idealize.ShloMosaic.Lib.ValueLayout

@[expose] public section

noncomputable section

namespace Cert.Select

open Idealize.ShloMosaic hiding ix2 ix3
open Cert.ReferenceIdeal.Gen (facts)
open Cert.ReferenceIdeal.Read (val_main_v0 val_main_v1 val_main_v2 val_main_v3 val_main_v4)
open Cert.RefRead (box gt one_f32 zero_f32)
open Idealize.ShloMosaic.ValueIdx (ix2 ix3)

/-- The precondition's own side conditions. -/
theorem preFacts : Cert.Pre_boxes_and_labels.Facts where
  bcast_S_S1x20000x4 := by decide
  slices_S1x20000x4_S1x20000x2_0_0_0 := by decide
  slices_S1x20000x4_S1x20000x2_0_0_2 := by decide
  bcast_S_S1x100x4 := by decide
  slices_S1x100x4_S1x100x2_0_0_0 := by decide
  slices_S1x100x4_S1x100x2_0_0_2 := by decide
  bcast_S_S1x100x21 := by decide
  reducesTo_S1x100x21_S1x100_d2 := by decide
  h_S_ := by decide
  bcast_S_S1x100 := by decide

/-- The bits of positive infinity. -/
theorem top_f32 : (FloatOps.ofBits .f32 0x7F800000#32 : Ideal .f32) = (⊤ : EReal) := by
  refine Eq.trans (b := Ideal.ofBits .f32 0x7F800000#32) rfl ?_
  simp [Ideal.ofBits, Ideal.ieee]

/-- A number whose size is below infinity is real. -/
theorem real_of_size (x : EReal)
    (h : FloatOps.cmpf (F := Ideal) (φ := .f32) .olt (FloatOps.hostAbsf x) (FloatOps.ofBits .f32 0x7F800000#32) = 1#1) : ∃ r : ℝ, x = (r : EReal) := by
  rw [top_f32] at h
  have hx : max x (-x) < ⊤ := by
    by_contra hn
    have e : FloatOps.cmpf (F := Ideal) (φ := .f32) .olt (FloatOps.hostAbsf x) (⊤ : EReal) = BitVec.ofBool (decide (max x (-x) < ⊤)) := rfl
    rw [e, decide_eq_false hn] at h
    exact absurd h (by decide)
  induction x with
  | bot => simp at hx
  | top => simp at hx
  | coe r => exact ⟨r, rfl⟩

/-- A set comparison bit says that the one number is at most the other. -/
theorem le_of_bit (x y : EReal) (h : FloatOps.cmpf (F := Ideal) (φ := .f32) .ole x y = 1#1) : x ≤ y := by
  by_contra hn
  have e : FloatOps.cmpf (F := Ideal) (φ := .f32) .ole x y = BitVec.ofBool (decide (x ≤ y)) := rfl
  rw [e, decide_eq_false hn] at h
  exact absurd h (by decide)

/-- A set equality bit says that the two numbers are equal. -/
theorem eq_of_bit (x y : EReal) (h : FloatOps.cmpf (F := Ideal) (φ := .f32) .oeq x y = 1#1) : x = y := by
  by_contra hn
  have e : FloatOps.cmpf (F := Ideal) (φ := .f32) .oeq x y = BitVec.ofBool (decide (x = y)) := rfl
  rw [e, decide_eq_false hn] at h
  exact absurd h (by decide)

/-- Four real coordinates, the first two at most the last two, are a box. -/
theorem isBox_of (a : Fin 4 → EReal) (hr : ∀ q, ∃ r : ℝ, a q = (r : EReal)) (h0 : a 0 ≤ a 2) (h1 : a 1 ≤ a 3) : IsBox a := by
  choose r h using hr
  rw [h, h, EReal.coe_le_coe_iff] at h0 h1
  exact ⟨r, h, h0, h1⟩

/-- A finite sum of reals is the same sum of extended reals. -/
theorem real_sum {ι : Type} (s : Finset ι) (g : ι → ℝ) : ((∑ l ∈ s, g l : ℝ) : EReal) = ∑ l ∈ s, (g l : EReal) := by
  classical
  induction s using Finset.induction_on with
  | empty => rfl
  | insert a s ha ih => rw [Finset.sum_insert ha, Finset.sum_insert ha, EReal.coe_add, ih]

/-- Noughts and ones that sum to one have exactly one one. -/
theorem one_hot (f : Fin 21 → EReal) (h01 : ∀ l, f l = 0 ∨ f l = 1) (hs : ∑ l, f l = 1) : ∃ c, ∀ l, f l = if l = c then (1 : EReal) else 0 := by
  have hf : ∀ l, f l = (((if f l = 1 then 1 else 0 : ℕ) : ℝ) : EReal) := by
    intro l
    rcases h01 l with h | h <;> simp [h]
  have hn : (∑ l, (if f l = 1 then 1 else 0 : ℕ)) = 1 := by
    have e : (((∑ l, (if f l = 1 then 1 else 0 : ℕ) : ℕ) : ℝ) : EReal) = ((1 : ℝ) : EReal) := by
      rw [Finset.sum_congr rfl fun l _ => hf l] at hs
      rw [Nat.cast_sum, real_sum]
      exact hs
    exact_mod_cast EReal.coe_injective e
  rw [← Finset.card_filter, Finset.card_eq_one] at hn
  obtain ⟨c, hc⟩ := hn
  refine ⟨c, fun l => ?_⟩
  have hl : f l = 1 ↔ l = c := by
    have := congrArg (l ∈ ·) hc
    simpa using this
  by_cases h : l = c
  · rw [if_pos h, hl.mpr h]
  · rw [if_neg h]
    exact (h01 l).resolve_right fun e => h (hl.mp e)

variable (a0 : FVec Ideal Cert.ReferenceIdeal.S1x20000x4 .f32) (a1 : FVec Ideal Cert.ReferenceIdeal.S1x100x4 .f32)
  (a2 : FVec Ideal Cert.ReferenceIdeal.S1x100x21 .f32)

/-- A proposal's coordinate. -/
theorem proposal_at (n : Fin 20000) (q : Fin 4) : val_main_v0 (F := Ideal) a0 (ix2 n q) = a0 (ix3 0 n q) := by
  unfold val_main_v0
  exact ValueIdx.shapeCast_1ab_ab_apply (a := 20000) (b := 4) a0 _ n q

/-- A ground-truth box's coordinate. -/
theorem truth_at (j : Fin 100) (q : Fin 4) : val_main_v3 (F := Ideal) a1 (ix2 j q) = a1 (ix3 0 j q) := by
  unfold val_main_v3
  exact ValueIdx.shapeCast_1ab_ab_apply (a := 100) (b := 4) a1 _ j q

/-- An entry of the labels. -/
theorem label_at (j : Fin 100) (l : Fin 21) : val_main_v4 (F := Ideal) a2 (ix2 j l) = a2 (ix3 0 j l) := by
  unfold val_main_v4
  exact ValueIdx.shapeCast_1ab_ab_apply (a := 100) (b := 21) a2 _ j l

/-- Every box is a proposal or a ground-truth box. -/
theorem box_cases (n : Fin 20100) : (∃ k : Fin 20000, ∀ q, box a0 a1 n q = a0 (ix3 0 k q)) ∨ ∃ j : Fin 100, box a0 a1 n = gt a1 j := by
  by_cases h : n.val < 20000
  · left
    refine ⟨⟨n.val, h⟩, fun q => ?_⟩
    refine Eq.trans ?_ (proposal_at a0 ⟨n.val, h⟩ q)
    exact concatenate_pair_apply_left (t := Cert.ReferenceIdeal.S20100x4) (s₁ := Cert.ReferenceIdeal.S20000x4) (s₂ := Cert.ReferenceIdeal.S100x4) 0 _ _
      facts.concatenates_S20000x4_S100x4_S20100x4_d0 _ rfl (ix2 ⟨n.val, h⟩ q) fun b => match b with | ⟨0, _⟩ => rfl | ⟨1, _⟩ => rfl
  · right
    have hn := n.isLt
    refine ⟨⟨n.val - 20000, by omega⟩, ?_⟩
    funext q
    exact concatenate_pair_apply_right (t := Cert.ReferenceIdeal.S20100x4) (s₁ := Cert.ReferenceIdeal.S20000x4) (s₂ := Cert.ReferenceIdeal.S100x4) 0 _ _
      facts.concatenates_S20000x4_S100x4_S20100x4_d0 _ rfl rfl (ix2 ⟨n.val - 20000, by omega⟩ q) (fun b hb => match b, hb with | ⟨0, _⟩, hb => absurd rfl hb | ⟨1, _⟩, _ => rfl)
      (by show n.val - 20000 + 20000 = n.val; omega)

variable [hP : Cert.Pre_boxes_and_labels.Facts]

/-- What the precondition says of the arrays. -/
abbrev Holds : Prop :=
  (Cert.Pre_boxes_and_labels.fn (F := Ideal) a0 a1 a2).1 = (fun _ => 1#1)
    ∧ (Cert.Pre_boxes_and_labels.fn (F := Ideal) a0 a1 a2).2.1 = (fun _ => 1#1)
    ∧ (Cert.Pre_boxes_and_labels.fn (F := Ideal) a0 a1 a2).2.2.1 = (fun _ => 1#1)
    ∧ (Cert.Pre_boxes_and_labels.fn (F := Ideal) a0 a1 a2).2.2.2.1 = (fun _ => 1#1)
    ∧ (Cert.Pre_boxes_and_labels.fn (F := Ideal) a0 a1 a2).2.2.2.2.1 = (fun _ => 1#1)
    ∧ (Cert.Pre_boxes_and_labels.fn (F := Ideal) a0 a1 a2).2.2.2.2.2 = (fun _ => 1#1)

/-- Half the coordinates of a proposal, read. -/
theorem cut_proposals (o : Nat) (h : Cert.Pre_boxes_and_labels.S1x20000x4.Slices ![0, 0, o] Cert.Pre_boxes_and_labels.S1x20000x2) (n : Fin 20000) (q : Fin 2) (p : Fin 4)
    (hp : p.val = o + q.val) : extractStridedSlice Cert.Pre_boxes_and_labels.S1x20000x2 ![0, 0, o] a0 h (ix3 0 n q) = a0 (ix3 0 n p) :=
  extractStridedSlice_apply ![0, 0, o] a0 h (ix3 0 n q) (ix3 0 n p) fun a => match a with
    | ⟨0, _⟩ => rfl
    | ⟨1, _⟩ => (Nat.zero_add n.val).symm
    | ⟨2, _⟩ => hp

/-- Half the coordinates of a ground-truth box, read. -/
theorem cut_truths (o : Nat) (h : Cert.Pre_boxes_and_labels.S1x100x4.Slices ![0, 0, o] Cert.Pre_boxes_and_labels.S1x100x2) (j : Fin 100) (q : Fin 2) (p : Fin 4)
    (hp : p.val = o + q.val) : extractStridedSlice Cert.Pre_boxes_and_labels.S1x100x2 ![0, 0, o] a1 h (ix3 0 j q) = a1 (ix3 0 j p) :=
  extractStridedSlice_apply ![0, 0, o] a1 h (ix3 0 j q) (ix3 0 j p) fun a => match a with
    | ⟨0, _⟩ => rfl
    | ⟨1, _⟩ => (Nat.zero_add j.val).symm
    | ⟨2, _⟩ => hp

/-- Under the precondition every ground-truth box is a box. -/
theorem Holds.truths (H : Holds a0 a1 a2) (j : Fin 100) : IsBox (gt a1 j) := by
  have hr : ∀ q, ∃ r : ℝ, gt a1 j q = (r : EReal) := fun q =>
    (real_of_size (a1 (ix3 0 j q)) (congrFun H.2.2.1 (ix3 0 j q))).imp fun _ h => (truth_at a1 j q).trans h
  have ho : ∀ (q : Fin 2) (p p' : Fin 4), p.val = 0 + q.val → p'.val = 2 + q.val → gt a1 j p ≤ gt a1 j p' := by
    intro q p p' hp hp'
    have h := congrFun H.2.2.2.1 (ix3 0 j q)
    have e := le_of_bit _ _ h
    beta_reduce at e
    rw [cut_truths a1 0 _ j q p hp, cut_truths a1 2 _ j q p' hp'] at e
    unfold gt
    rw [truth_at, truth_at]
    exact e
  exact isBox_of _ hr (ho 0 0 2 rfl rfl) (ho 1 1 3 rfl rfl)

/-- Under the precondition every box is a box. -/
theorem Holds.boxes (H : Holds a0 a1 a2) (n : Fin 20100) : IsBox (box a0 a1 n) := by
  rcases box_cases a0 a1 n with ⟨k, hk⟩ | ⟨j, hj⟩
  · have hr : ∀ q, ∃ r : ℝ, box a0 a1 n q = (r : EReal) := fun q =>
      (real_of_size (a0 (ix3 0 k q)) (congrFun H.1 (ix3 0 k q))).imp fun _ h => (hk q).trans h
    have ho : ∀ (q : Fin 2) (p p' : Fin 4), p.val = 0 + q.val → p'.val = 2 + q.val → box a0 a1 n p ≤ box a0 a1 n p' := by
      intro q p p' hp hp'
      have h := congrFun H.2.1 (ix3 0 k q)
      have e := le_of_bit _ _ h
      beta_reduce at e
      rw [cut_proposals a0 0 _ k q p hp, cut_proposals a0 2 _ k q p' hp'] at e
      rw [hk, hk]
      exact e
    exact isBox_of _ hr (ho 0 0 2 rfl rfl) (ho 1 1 3 rfl rfl)
  · rw [hj]
    exact H.truths a0 a1 a2 j

/-- Under the precondition every entry of the labels is nought or one. -/
theorem Holds.binary (H : Holds a0 a1 a2) (j : Fin 100) (l : Fin 21) : a2 (ix3 0 j l) = 0 ∨ a2 (ix3 0 j l) = 1 := by
  have h := congrFun H.2.2.2.2.1 (ix3 0 j l)
  have h' : FloatOps.cmpf (F := Ideal) (φ := .f32) .oeq (a2 (ix3 0 j l)) (FloatOps.ofBits .f32 0x00000000#32)
      ||| FloatOps.cmpf (F := Ideal) (φ := .f32) .oeq (a2 (ix3 0 j l)) (FloatOps.ofBits .f32 0x3F800000#32) = 1#1 := h
  rw [zero_f32, one_f32] at h'
  have bits : ∀ u v : BitVec 1, u ||| v = 1#1 → u = 1#1 ∨ v = 1#1 := by decide
  exact (bits _ _ h').imp (eq_of_bit _ _) (eq_of_bit _ _)

/-- Under the precondition a ground-truth box's labels sum to one. -/
theorem Holds.total (H : Holds a0 a1 a2) (j : Fin 100) : ∑ l : Fin 21, a2 (ix3 0 j l) = 1 := by
  have h := eq_of_bit _ _ (congrFun H.2.2.2.2.2 (ix2 0 j))
  have hs := Ideal.hostReduceAdd_r3_a2 (hP.reducesTo_S1x100x21_S1x100_d2) a2 (FloatOps.ofBits (F := Ideal) .f32 0x00000000#32) (ix2 0 j)
  have e : FloatOps.ofBits (F := Ideal) .f32 0x00000000#32 + ∑ l : Fin 21, a2 (ix3 0 j l) = FloatOps.ofBits (F := Ideal) .f32 0x3F800000#32 :=
    hs.symm.trans h
  rw [zero_f32, one_f32] at e
  exact (zero_add _).symm.trans e

/-- Under the precondition every ground-truth box has exactly one label. -/
theorem Holds.labels (H : Holds a0 a1 a2) :
    ∃ cls : Fin 100 → Fin 21, ∀ j l, val_main_v4 (F := Ideal) a2 (ix2 j l) = if l = cls j then (1 : EReal) else 0 := by
  choose cls h using fun j => one_hot (fun l => a2 (ix3 0 j l)) (H.binary a0 a1 a2 j) (H.total a0 a1 a2 j)
  exact ⟨cls, fun j l => (label_at a2 j l).trans (h j l)⟩

end Cert.Select

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Arrays
public import proofs.«01_k».proof.Proof.Precondition

public import Idealize.ShloMosaic.Adequacy
public import Idealize.ShloMosaic.Init

@[expose] public section

noncomputable section

namespace Cert.Proof

open Idealize.ShloMosaic Idealize.SL.Sem
open Cert.Select (Launched Holds given0 given1 given2 result4 result5 result6)
open Cert.ReferenceIdeal.Read (val_main_v119 val_main_v139 val_main_v225 val_main_v119_eq val_main_v139_eq val_main_v225_eq)

/-- The reference leaves its arguments unchanged and every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Launched arrays that meet the precondition are boxes and labels. -/
theorem launched [Cert.Pre_boxes_and_labels.Facts] (m : (ℓ : Loc Cert.KernelIdeal.nD Cert.KernelIdeal.τ Cert.KernelIdeal.sig) → Buf (Elt Ideal) ℓ)
    (h : Cert.Pre_KernelIdeal_boxes_and_labels m) (c : Dev Cert.KernelIdeal.nD) : ∃ cls, Launched m c cls := by
  have H : Holds (given0 m c) (given1 m c) (given2 m c) := h c
  obtain ⟨cls, hl⟩ := H.labels
  exact ⟨cls, H.boxes, H.truths, hl⟩

/-- The kernel's three results are the reference's, for boxes and labels. -/
theorem results [Cert.Pre_boxes_and_labels.Facts] : Cert.algebraic_KernelIdeal_ReferenceIdeal_pre_boxes_and_labels
    (hKernelIdeal := Cert.KernelIdeal.Gen.facts) (hReferenceIdeal := Cert.ReferenceIdeal.Gen.facts) := by
  intro m g m' g' hp hm
  refine ⟨fun c => val_main_v119 (F := Ideal) (given0 m c) (given1 m c), fun c => val_main_v139 (F := Ideal) (given0 m c) (given1 m c) (given2 m c),
    fun c => val_main_v225 (F := Ideal) (given0 m c) (given1 m c) (given2 m c), ?_, ?_⟩
  · refine (θ_run Cert.KernelIdeal.defs _ _).mono (fun r h c => ?_) (Cert.KernelIdeal.Value.run_blocks (F := Ideal) m g)
    obtain ⟨cls, L⟩ := launched m hp c
    exact ⟨(h c).1.trans (result4 m c cls L), (h c).2.1.trans (result5 m c cls L), (h c).2.2.1.trans (result6 m c cls L), (h c).2.2.2⟩
  · refine (θ_run Cert.ReferenceIdeal.defs _ _).mono (fun r h c => ?_) (Cert.ReferenceIdeal.Value.run (F := Ideal) m' g')
    obtain ⟨e0, e1, e2⟩ := hm c
    refine ⟨(h c).1.trans ((val_main_v119_eq _).trans ?_), (h c).2.1.trans ((val_main_v139_eq _).trans ?_),
      (h c).2.2.1.trans ((val_main_v225_eq _).trans ?_), (h c).2.2.2⟩
    · exact congrArg₂ (val_main_v119 (F := Ideal)) e0 e1
    · exact congr (congrArg₂ (val_main_v139 (F := Ideal)) e0 e1) e2
    · exact congr (congrArg₂ (val_main_v225 (F := Ideal)) e0 e1) e2

/-- Everything the statement claims. -/
theorem claim : Cert.Claim := ⟨Cert.Kernel.Gen.facts, Cert.KernelIdeal.Gen.facts, Cert.ReferenceIdeal.Gen.facts, Cert.Select.preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, @results Cert.Select.preFacts⟩

end Cert.Proof

end
